-- ==== Defs.lean ====
def Pre_Kernel [hPre_swapped_Kernel : Cert.Pre_swapped_Kernel.Facts] (m : (ℓ : Loc Cert.Kernel.nD Cert.Kernel.τ Cert.Kernel.sig) → Buf (Elt Bits) ℓ) : Prop :=
  ∀ c : Dev Cert.Kernel.nD,
    (Cert.Pre_swapped_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_in_place_Kernel [hPre_in_place_Kernel : Cert.Pre_in_place_Kernel.Facts] (m : (ℓ : Loc Cert.Kernel.nD Cert.Kernel.τ Cert.Kernel.sig) → Buf (Elt Bits) ℓ) : Prop :=
  ∀ c : Dev Cert.Kernel.nD,
    (Cert.Pre_in_place_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swapped_Kernel : Cert.Pre_swapped_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swapped_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_in_place_Kernel [hPre_in_place_Kernel : Cert.Pre_in_place_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_in_place_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swapped_ReferenceIdeal [hPre_swapped_ReferenceIdeal : Cert.Pre_swapped_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swapped_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_in_place_ReferenceIdeal [hPre_in_place_ReferenceIdeal : Cert.Pre_in_place_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_place_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swapped_Kernel : Cert.Pre_swapped_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_in_place_Kernel [hKernel : Cert.Kernel.Facts] [hPre_in_place_Kernel : Cert.Pre_in_place_Kernel.Facts] : Prop :=
  ∀ (m : (ℓ : Loc Cert.Kernel.nD Cert.Kernel.τ Cert.Kernel.sig) → Buf (Elt Bits) ℓ) (g : Dev Cert.Kernel.nD → PrngReg), Pre_Kernel_in_place_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_place_Kernel [hKernelIdeal : Cert.KernelIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_place_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swapped_ReferenceIdeal [hReferenceIdeal : Cert.ReferenceIdeal.Facts] [hPre_swapped_ReferenceIdeal : Cert.Pre_swapped_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swapped_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_place_ReferenceIdeal [hReferenceIdeal : Cert.ReferenceIdeal.Facts] [hPre_in_place_ReferenceIdeal : Cert.Pre_in_place_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_place_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swapped_Kernel : Cert.Pre_swapped_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_in_place_Kernel [hKernelIdeal : Cert.KernelIdeal.Facts] [hReferenceIdeal : Cert.ReferenceIdeal.Facts] [hPre_in_place_Kernel : Cert.Pre_in_place_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_place_Kernel m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![2, 1024, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 1024, 1024]⟩ ⟨3, ![2, 1024, 1024]⟩ (Layout.meshBlock [2, 2] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swapped_Kernel : Cert.Pre_swapped_Kernel.Facts) (hPre_in_place_Kernel : Cert.Pre_in_place_Kernel.Facts) (hPre_swapped_ReferenceIdeal : Cert.Pre_swapped_ReferenceIdeal.Facts) (hPre_in_place_ReferenceIdeal : Cert.Pre_in_place_ReferenceIdeal.Facts),
    quiescent_Kernel (hKernel := hKernel) (hPre_swapped_Kernel := hPre_swapped_Kernel)
    ∧ quiescent_Kernel_pre_in_place_Kernel (hKernel := hKernel) (hPre_in_place_Kernel := hPre_in_place_Kernel)
    ∧ quiescent_KernelIdeal (hKernelIdeal := hKernelIdeal) (hPre_swapped_Kernel := hPre_swapped_Kernel)
    ∧ quiescent_KernelIdeal_pre_in_place_Kernel (hKernelIdeal := hKernelIdeal) (hPre_in_place_Kernel := hPre_in_place_Kernel)
    ∧ quiescent_ReferenceIdeal (hReferenceIdeal := hReferenceIdeal)
    ∧ quiescent_ReferenceIdeal_pre_swapped_ReferenceIdeal (hReferenceIdeal := hReferenceIdeal) (hPre_swapped_ReferenceIdeal := hPre_swapped_ReferenceIdeal)
    ∧ quiescent_ReferenceIdeal_pre_in_place_ReferenceIdeal (hReferenceIdeal := hReferenceIdeal) (hPre_in_place_ReferenceIdeal := hPre_in_place_ReferenceIdeal)
    ∧ preserves_Kernel_KernelIdeal
    ∧ algebraic_KernelIdeal_ReferenceIdeal (hKernelIdeal := hKernelIdeal) (hReferenceIdeal := hReferenceIdeal) (hPre_swapped_Kernel := hPre_swapped_Kernel)
    ∧ algebraic_KernelIdeal_ReferenceIdeal_pre_in_place_Kernel (hKernelIdeal := hKernelIdeal) (hReferenceIdeal := hReferenceIdeal) (hPre_in_place_Kernel := hPre_in_place_Kernel)
-- ==== Pre_in_place_Kernel.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_in_place_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swapped_Kernel.lean ====
abbrev S1x1024x1024 : Shape := ⟨3, ![1, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swapped_ReferenceIdeal.lean ====
abbrev S2x1024x1024 : Shape := ⟨3, ![2, 1024, 1024]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x1024x1024 .f32) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x1024x1024 : Shape := ⟨3, ![1, 1024, 1024]⟩
abbrev S2 : Shape := ⟨1, ![2]⟩
abbrev S32 : Shape := ⟨1, ![32]⟩
abbrev S_ : Shape := ⟨0, ![]⟩
abbrev S1 : Shape := ⟨1, ![1]⟩
abbrev S1x16x1024 : Shape := ⟨3, ![1, 16, 1024]⟩

abbrev nBuf : Space → Nat
  | .hbm => 3
  | .vmem => 0
  | .smem => 1
  | _ => 0

abbrev bufTy : (tb : Table) → Fin (tcTables nBuf tb) → BufTy
  | .hbm, ⟨0, _⟩ => ⟨S1x1024x1024, .f32⟩
  | .hbm, ⟨1, _⟩ => ⟨S2, .i32⟩
  | .hbm, ⟨2, _⟩ => ⟨S1x1024x1024, .f32⟩
  | .local _ .smem, ⟨0, _⟩ => ⟨S2, .i32⟩
  | _, _ => ⟨S1x1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .smem, ⟨0, _⟩ => true
  | _, _ => false

abbrev semScoped : Fin 1 → Bool
  | ⟨0, _⟩ => false
  | _ => false

abbrev dmaSemScoped : Fin 130 → Bool
  | ⟨i, _⟩ => dmaSemScopedAt i

abbrev sig : RefSig :=
  (ofTc nBuf bufTy 1 130 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.smem, 0, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 1 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : Index := Scalar.indexCast v2
  ![v6.toNat]
def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v8 : BitVec 32 := Scalar.subi c1_i32_2 v2
  let c2_i32_5 : BitVec 32 := 2#32
  let v11 : BitVec 32 := Scalar.muli v8 c2_i32_5
  let v12 : BitVec 32 := Scalar.addi c0_i32 v11
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v13 : BitVec 32 := Scalar.muli v5 c1_i32_6
  let v14 : BitVec 32 := Scalar.addi v12 v13
  v14.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v15 : BitVec 32 := Scalar.muli v2 c2_i32_8
  let v16 : BitVec 32 := Scalar.addi c0_i32_9 v15
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_10 : BitVec 32 := 1#32
  let v17 : BitVec 32 := Scalar.muli v9 c1_i32_10
  let v18 : BitVec 32 := Scalar.addi v16 v17
  v18.toNat
def k0_off2 (d0 : Dev nD) (c0_i32_14 : BitVec 32) : Fin 3 → Nat :=
  let c0_i32_20 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v25 : BitVec 32 := Scalar.muli v5 c512_i32
  let v26 : BitVec 32 := Scalar.addi v25 c0_i32_14
  let c0_i32_21 : BitVec 32 := 0#32
  ![0, v26.toNat, 0]
def k0_dev3 (d0 : Dev nD) (v7 : BitVec 32) : Nat :=
  let c0_i32_18 : BitVec 32 := 0#32
  let c2_i32_17 : BitVec 32 := 2#32
  let v27 : BitVec 32 := Scalar.muli v7 c2_i32_17
  let v28 : BitVec 32 := Scalar.addi c0_i32_18 v27
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_19 : BitVec 32 := 1#32
  let v29 : BitVec 32 := Scalar.muli v5 c1_i32_19
  let v30 : BitVec 32 := Scalar.addi v28 v29
  v30.toNat
def k0_cond2 (d0 : Dev nD) (v7 : BitVec 32) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v22 : BitVec 1 := Scalar.cmpi .ne v7 v2
  let v23 : BitVec 32 := Scalar.extui v22
  let c0_i32_13 : BitVec 32 := 0#32
  let v24 : BitVec 1 := Scalar.cmpi .ne v23 c0_i32_13
  v24

def k0_dev4 (d0 : Dev nD) (v7 : BitVec 32) : Nat :=
  let c0_i32_27 : BitVec 32 := 0#32
  let c2_i32_26 : BitVec 32 := 2#32
  let v38 : BitVec 32 := Scalar.muli v7 c2_i32_26
  let v39 : BitVec 32 := Scalar.addi c0_i32_27 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v40 : BitVec 32 := Scalar.muli v5 c1_i32_28
  let v41 : BitVec 32 := Scalar.addi v39 v40
  v41.toNat
def k0_dev5 (d0 : Dev nD) (v7 : BitVec 32) : Nat :=
  let c0_i32_36 : BitVec 32 := 0#32
  let c2_i32_35 : BitVec 32 := 2#32
  let v49 : BitVec 32 := Scalar.muli v7 c2_i32_35
  let v50 : BitVec 32 := Scalar.addi c0_i32_36 v49
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v51 : BitVec 32 := Scalar.muli v5 c1_i32_37
  let v52 : BitVec 32 := Scalar.addi v50 v51
  v52.toNat
def k0_dev6 (d0 : Dev nD) (v7 : BitVec 32) : Nat :=
  let c0_i32_44 : BitVec 32 := 0#32
  let c2_i32_43 : BitVec 32 := 2#32
  let v60 : BitVec 32 := Scalar.muli v7 c2_i32_43
  let v61 : BitVec 32 := Scalar.addi c0_i32_44 v60
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v62 : BitVec 32 := Scalar.muli v5 c1_i32_45
  let v63 : BitVec 32 := Scalar.addi v61 v62
  v63.toNat
def k0_dev7 (d0 : Dev nD) (v7 : BitVec 32) : Nat :=
  let c0_i32_52 : BitVec 32 := 0#32
  let c2_i32_51 : BitVec 32 := 2#32
  let v71 : BitVec 32 := Scalar.muli v7 c2_i32_51
  let v72 : BitVec 32 := Scalar.addi c0_i32_52 v71
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_53 : BitVec 32 := 1#32
  let v73 : BitVec 32 := Scalar.muli v5 c1_i32_53
  let v74 : BitVec 32 := Scalar.addi v72 v73
  v74.toNat
def k0_dev8 (d0 : Dev nD) (v7 : BitVec 32) : Nat :=
  let c0_i32_60 : BitVec 32 := 0#32
  let c2_i32_59 : BitVec 32 := 2#32
  let v82 : BitVec 32 := Scalar.muli v7 c2_i32_59
  let v83 : BitVec 32 := Scalar.addi c0_i32_60 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_61 : BitVec 32 := 1#32
  let v84 : BitVec 32 := Scalar.muli v5 c1_i32_61
  let v85 : BitVec 32 := Scalar.addi v83 v84
  v85.toNat
def k0_dev9 (d0 : Dev nD) (v7 : BitVec 32) : Nat :=
  let c0_i32_68 : BitVec 32 := 0#32
  let c2_i32_67 : BitVec 32 := 2#32
  let v93 : BitVec 32 := Scalar.muli v7 c2_i32_67
  let v94 : BitVec 32 := Scalar.addi c0_i32_68 v93
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_69 : BitVec 32 := 1#32
  let v95 : BitVec 32 := Scalar.muli v5 c1_i32_69
  let v96 : BitVec 32 := Scalar.addi v94 v95
  v96.toNat
def k0_dev10 (d0 : Dev nD) (v7 : BitVec 32) : Nat :=
  let c0_i32_76 : BitVec 32 := 0#32
  let c2_i32_75 : BitVec 32 := 2#32
  let v104 : BitVec 32 := Scalar.muli v7 c2_i32_75
  let v105 : BitVec 32 := Scalar.addi c0_i32_76 v104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_77 : BitVec 32 := 1#32
  let v106 : BitVec 32 := Scalar.muli v5 c1_i32_77
  let v107 : BitVec 32 := Scalar.addi v105 v106
  v107.toNat
def k0_dev11 (d0 : Dev nD) (v7 : BitVec 32) : Nat :=
  let c0_i32_84 : BitVec 32 := 0#32
  let c2_i32_83 : BitVec 32 := 2#32
  let v115 : BitVec 32 := Scalar.muli v7 c2_i32_83
  let v116 : BitVec 32 := Scalar.addi c0_i32_84 v115
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_85 : BitVec 32 := 1#32
  let v117 : BitVec 32 := Scalar.muli v5 c1_i32_85
  let v118 : BitVec 32 := Scalar.addi v116 v117
  v118.toNat
def k0_dev12 (d0 : Dev nD) (v7 : BitVec 32) : Nat :=
  let c0_i32_92 : BitVec 32 := 0#32
  let c2_i32_91 : BitVec 32 := 2#32
  let v126 : BitVec 32 := Scalar.muli v7 c2_i32_91
  let v127 : BitVec 32 := Scalar.addi c0_i32_92 v126
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v128 : BitVec 32 := Scalar.muli v5 c1_i32_93
  let v129 : BitVec 32 := Scalar.addi v127 v128
  v129.toNat
def k0_dev13 (d0 : Dev nD) (v7 : BitVec 32) : Nat :=
  let c0_i32_100 : BitVec 32 := 0#32
  let c2_i32_99 : BitVec 32 := 2#32
  let v137 : BitVec 32 := Scalar.muli v7 c2_i32_99
  let v138 : BitVec 32 := Scalar.addi c0_i32_100 v137
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v139 : BitVec 32 := Scalar.muli v5 c1_i32_101
  let v140 : BitVec 32 := Scalar.addi v138 v139
  v140.toNat
def k0_dev14 (d0 : Dev nD) (v7 : BitVec 32) : Nat :=
  let c0_i32_108 : BitVec 32 := 0#32
  let c2_i32_107 : BitVec 32 := 2#32
  let v148 : BitVec 32 := Scalar.muli v7 c2_i32_107
  let v149 : BitVec 32 := Scalar.addi c0_i32_108 v148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v150 : BitVec 32 := Scalar.muli v5 c1_i32_109
  let v151 : BitVec 32 := Scalar.addi v149 v150
  v151.toNat
def k0_dev15 (d0 : Dev nD) (v7 : BitVec 32) : Nat :=
  let c0_i32_116 : BitVec 32 := 0#32
  let c2_i32_115 : BitVec 32 := 2#32
  let v159 : BitVec 32 := Scalar.muli v7 c2_i32_115
  let v160 : BitVec 32 := Scalar.addi c0_i32_116 v159
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v161 : BitVec 32 := Scalar.muli v5 c1_i32_117
  let v162 : BitVec 32 := Scalar.addi v160 v161
  v162.toNat
def k0_dev16 (d0 : Dev nD) (v7 : BitVec 32) : Nat :=
  let c0_i32_124 : BitVec 32 := 0#32
  let c2_i32_123 : BitVec 32 := 2#32
  let v170 : BitVec 32 := Scalar.muli v7 c2_i32_123
  let v171 : BitVec 32 := Scalar.addi c0_i32_124 v170
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v172 : BitVec 32 := Scalar.muli v5 c1_i32_125
  let v173 : BitVec 32 := Scalar.addi v171 v172
  v173.toNat
def k0_dev17 (d0 : Dev nD) (v7 : BitVec 32) : Nat :=
  let c0_i32_132 : BitVec 32 := 0#32
  let c2_i32_131 : BitVec 32 := 2#32
  let v181 : BitVec 32 := Scalar.muli v7 c2_i32_131
  let v182 : BitVec 32 := Scalar.addi c0_i32_132 v181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v183 : BitVec 32 := Scalar.muli v5 c1_i32_133
  let v184 : BitVec 32 := Scalar.addi v182 v183
  v184.toNat
def k0_dev18 (d0 : Dev nD) (v7 : BitVec 32) : Nat :=
  let c0_i32_140 : BitVec 32 := 0#32
  let c2_i32_139 : BitVec 32 := 2#32
  let v192 : BitVec 32 := Scalar.muli v7 c2_i32_139
  let v193 : BitVec 32 := Scalar.addi c0_i32_140 v192
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v194 : BitVec 32 := Scalar.muli v5 c1_i32_141
  let v195 : BitVec 32 := Scalar.addi v193 v194
  v195.toNat
def k0_dev19 (d0 : Dev nD) (v7 : BitVec 32) : Nat :=
  let c0_i32_149 : BitVec 32 := 0#32
  let c2_i32_148 : BitVec 32 := 2#32
  let v203 : BitVec 32 := Scalar.muli v7 c2_i32_148
  let v204 : BitVec 32 := Scalar.addi c0_i32_149 v203
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v205 : BitVec 32 := Scalar.muli v5 c1_i32_150
  let v206 : BitVec 32 := Scalar.addi v204 v205
  v206.toNat
def k0_dev20 (d0 : Dev nD) (v7 : BitVec 32) : Nat :=
  let c0_i32_157 : BitVec 32 := 0#32
  let c2_i32_156 : BitVec 32 := 2#32
  let v214 : BitVec 32 := Scalar.muli v7 c2_i32_156
  let v215 : BitVec 32 := Scalar.addi c0_i32_157 v214
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_158 : BitVec 32 := 1#32
  let v216 : BitVec 32 := Scalar.muli v5 c1_i32_158
  let v217 : BitVec 32 := Scalar.addi v215 v216
  v217.toNat
def k0_dev21 (d0 : Dev nD) (v7 : BitVec 32) : Nat :=
  let c0_i32_165 : BitVec 32 := 0#32
  let c2_i32_164 : BitVec 32 := 2#32
  let v225 : BitVec 32 := Scalar.muli v7 c2_i32_164
  let v226 : BitVec 32 := Scalar.addi c0_i32_165 v225
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v227 : BitVec 32 := Scalar.muli v5 c1_i32_166
  let v228 : BitVec 32 := Scalar.addi v226 v227
  v228.toNat
def k0_dev22 (d0 : Dev nD) (v7 : BitVec 32) : Nat :=
  let c0_i32_173 : BitVec 32 := 0#32
  let c2_i32_172 : BitVec 32 := 2#32
  let v236 : BitVec 32 := Scalar.muli v7 c2_i32_172
  let v237 : BitVec 32 := Scalar.addi c0_i32_173 v236
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_174 : BitVec 32 := 1#32
  let v238 : BitVec 32 := Scalar.muli v5 c1_i32_174
  let v239 : BitVec 32 := Scalar.addi v237 v238
  v239.toNat
def k0_dev23 (d0 : Dev nD) (v7 : BitVec 32) : Nat :=
  let c0_i32_181 : BitVec 32 := 0#32
  let c2_i32_180 : BitVec 32 := 2#32
  let v247 : BitVec 32 := Scalar.muli v7 c2_i32_180
  let v248 : BitVec 32 := Scalar.addi c0_i32_181 v247
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_182 : BitVec 32 := 1#32
  let v249 : BitVec 32 := Scalar.muli v5 c1_i32_182
  let v250 : BitVec 32 := Scalar.addi v248 v249
  v250.toNat
def k0_dev24 (d0 : Dev nD) (v7 : BitVec 32) : Nat :=
  let c0_i32_189 : BitVec 32 := 0#32
  let c2_i32_188 : BitVec 32 := 2#32
  let v258 : BitVec 32 := Scalar.muli v7 c2_i32_188
  let v259 : BitVec 32 := Scalar.addi c0_i32_189 v258
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v260 : BitVec 32 := Scalar.muli v5 c1_i32_190
  let v261 : BitVec 32 := Scalar.addi v259 v260
  v261.toNat
def k0_dev25 (d0 : Dev nD) (v7 : BitVec 32) : Nat :=
  let c0_i32_197 : BitVec 32 := 0#32
  let c2_i32_196 : BitVec 32 := 2#32
  let v269 : BitVec 32 := Scalar.muli v7 c2_i32_196
  let v270 : BitVec 32 := Scalar.addi c0_i32_197 v269
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_198 : BitVec 32 := 1#32
  let v271 : BitVec 32 := Scalar.muli v5 c1_i32_198
  let v272 : BitVec 32 := Scalar.addi v270 v271
  v272.toNat
def k0_dev26 (d0 : Dev nD) (v7 : BitVec 32) : Nat :=
  let c0_i32_205 : BitVec 32 := 0#32
  let c2_i32_204 : BitVec 32 := 2#32
  let v280 : BitVec 32 := Scalar.muli v7 c2_i32_204
  let v281 : BitVec 32 := Scalar.addi c0_i32_205 v280
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_206 : BitVec 32 := 1#32
  let v282 : BitVec 32 := Scalar.muli v5 c1_i32_206
  let v283 : BitVec 32 := Scalar.addi v281 v282
  v283.toNat
def k0_dev27 (d0 : Dev nD) (v7 : BitVec 32) : Nat :=
  let c0_i32_213 : BitVec 32 := 0#32
  let c2_i32_212 : BitVec 32 := 2#32
  let v291 : BitVec 32 := Scalar.muli v7 c2_i32_212
  let v292 : BitVec 32 := Scalar.addi c0_i32_213 v291
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_214 : BitVec 32 := 1#32
  let v293 : BitVec 32 := Scalar.muli v5 c1_i32_214
  let v294 : BitVec 32 := Scalar.addi v292 v293
  v294.toNat
def k0_dev28 (d0 : Dev nD) (v7 : BitVec 32) : Nat :=
  let c0_i32_221 : BitVec 32 := 0#32
  let c2_i32_220 : BitVec 32 := 2#32
  let v302 : BitVec 32 := Scalar.muli v7 c2_i32_220
  let v303 : BitVec 32 := Scalar.addi c0_i32_221 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_222 : BitVec 32 := 1#32
  let v304 : BitVec 32 := Scalar.muli v5 c1_i32_222
  let v305 : BitVec 32 := Scalar.addi v303 v304
  v305.toNat
def k0_dev29 (d0 : Dev nD) (v7 : BitVec 32) : Nat :=
  let c0_i32_229 : BitVec 32 := 0#32
  let c2_i32_228 : BitVec 32 := 2#32
  let v313 : BitVec 32 := Scalar.muli v7 c2_i32_228
  let v314 : BitVec 32 := Scalar.addi c0_i32_229 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_230 : BitVec 32 := 1#32
  let v315 : BitVec 32 := Scalar.muli v5 c1_i32_230
  let v316 : BitVec 32 := Scalar.addi v314 v315
  v316.toNat
def k0_dev30 (d0 : Dev nD) (v7 : BitVec 32) : Nat :=
  let c0_i32_237 : BitVec 32 := 0#32
  let c2_i32_236 : BitVec 32 := 2#32
  let v324 : BitVec 32 := Scalar.muli v7 c2_i32_236
  let v325 : BitVec 32 := Scalar.addi c0_i32_237 v324
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_238 : BitVec 32 := 1#32
  let v326 : BitVec 32 := Scalar.muli v5 c1_i32_238
  let v327 : BitVec 32 := Scalar.addi v325 v326
  v327.toNat
def k0_dev31 (d0 : Dev nD) (v7 : BitVec 32) : Nat :=
  let c0_i32_245 : BitVec 32 := 0#32
  let c2_i32_244 : BitVec 32 := 2#32
  let v335 : BitVec 32 := Scalar.muli v7 c2_i32_244
  let v336 : BitVec 32 := Scalar.addi c0_i32_245 v335
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_246 : BitVec 32 := 1#32
  let v337 : BitVec 32 := Scalar.muli v5 c1_i32_246
  let v338 : BitVec 32 := Scalar.addi v336 v337
  v338.toNat
def k0_dev32 (d0 : Dev nD) (v7 : BitVec 32) : Nat :=
  let c0_i32_253 : BitVec 32 := 0#32
  let c2_i32_252 : BitVec 32 := 2#32
  let v346 : BitVec 32 := Scalar.muli v7 c2_i32_252
  let v347 : BitVec 32 := Scalar.addi c0_i32_253 v346
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_254 : BitVec 32 := 1#32
  let v348 : BitVec 32 := Scalar.muli v5 c1_i32_254
  let v349 : BitVec 32 := Scalar.addi v347 v348
  v349.toNat
def k0_dev33 (d0 : Dev nD) (v7 : BitVec 32) : Nat :=
  let c0_i32_261 : BitVec 32 := 0#32
  let c2_i32_260 : BitVec 32 := 2#32
  let v357 : BitVec 32 := Scalar.muli v7 c2_i32_260
  let v358 : BitVec 32 := Scalar.addi c0_i32_261 v357
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_262 : BitVec 32 := 1#32
  let v359 : BitVec 32 := Scalar.muli v5 c1_i32_262
  let v360 : BitVec 32 := Scalar.addi v358 v359
  v360.toNat
def k0_dev34 (d0 : Dev nD) (v7 : BitVec 32) : Nat :=
  let c0_i32_269 : BitVec 32 := 0#32
  let c2_i32_268 : BitVec 32 := 2#32
  let v368 : BitVec 32 := Scalar.muli v7 c2_i32_268
  let v369 : BitVec 32 := Scalar.addi c0_i32_269 v368
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_270 : BitVec 32 := 1#32
  let v370 : BitVec 32 := Scalar.muli v5 c1_i32_270
  let v371 : BitVec 32 := Scalar.addi v369 v370
  v371.toNat

def k0_chk1 (d0 : Dev nD) (v7 : BitVec 32) : Prop :=
  (∀ (k0_h2 : k0_cond2 d0 v7 = 1#1), (k0_dev3 d0 v7) < nD) ∧
  (∀ (k0_h2 : k0_cond2 d0 v7 = 1#1), (k0_dev4 d0 v7) < nD) ∧
  (∀ (k0_h2 : k0_cond2 d0 v7 = 1#1), (k0_dev5 d0 v7) < nD) ∧
  (∀ (k0_h2 : k0_cond2 d0 v7 = 1#1), (k0_dev6 d0 v7) < nD) ∧
  (∀ (k0_h2 : k0_cond2 d0 v7 = 1#1), (k0_dev7 d0 v7) < nD) ∧
  (∀ (k0_h2 : k0_cond2 d0 v7 = 1#1), (k0_dev8 d0 v7) < nD) ∧
  (∀ (k0_h2 : k0_cond2 d0 v7 = 1#1), (k0_dev9 d0 v7) < nD) ∧
  (∀ (k0_h2 : k0_cond2 d0 v7 = 1#1), (k0_dev10 d0 v7) < nD) ∧
  (∀ (k0_h2 : k0_cond2 d0 v7 = 1#1), (k0_dev11 d0 v7) < nD) ∧
  (∀ (k0_h2 : k0_cond2 d0 v7 = 1#1), (k0_dev12 d0 v7) < nD) ∧
  (∀ (k0_h2 : k0_cond2 d0 v7 = 1#1), (k0_dev13 d0 v7) < nD) ∧
  (∀ (k0_h2 : k0_cond2 d0 v7 = 1#1), (k0_dev14 d0 v7) < nD) ∧
  (∀ (k0_h2 : k0_cond2 d0 v7 = 1#1), (k0_dev15 d0 v7) < nD) ∧
  (∀ (k0_h2 : k0_cond2 d0 v7 = 1#1), (k0_dev16 d0 v7) < nD) ∧
  (∀ (k0_h2 : k0_cond2 d0 v7 = 1#1), (k0_dev17 d0 v7) < nD) ∧
  (∀ (k0_h2 : k0_cond2 d0 v7 = 1#1), (k0_dev18 d0 v7) < nD) ∧
  (∀ (k0_h2 : k0_cond2 d0 v7 = 1#1), (k0_dev19 d0 v7) < nD) ∧
  (∀ (k0_h2 : k0_cond2 d0 v7 = 1#1), (k0_dev20 d0 v7) < nD) ∧
  (∀ (k0_h2 : k0_cond2 d0 v7 = 1#1), (k0_dev21 d0 v7) < nD) ∧
  (∀ (k0_h2 : k0_cond2 d0 v7 = 1#1), (k0_dev22 d0 v7) < nD) ∧
  (∀ (k0_h2 : k0_cond2 d0 v7 = 1#1), (k0_dev23 d0 v7) < nD) ∧
  (∀ (k0_h2 : k0_cond2 d0 v7 = 1#1), (k0_dev24 d0 v7) < nD) ∧
  (∀ (k0_h2 : k0_cond2 d0 v7 = 1#1), (k0_dev25 d0 v7) < nD) ∧
  (∀ (k0_h2 : k0_cond2 d0 v7 = 1#1), (k0_dev26 d0 v7) < nD) ∧
  (∀ (k0_h2 : k0_cond2 d0 v7 = 1#1), (k0_dev27 d0 v7) < nD) ∧
  (∀ (k0_h2 : k0_cond2 d0 v7 = 1#1), (k0_dev28 d0 v7) < nD) ∧
  (∀ (k0_h2 : k0_cond2 d0 v7 = 1#1), (k0_dev29 d0 v7) < nD) ∧
  (∀ (k0_h2 : k0_cond2 d0 v7 = 1#1), (k0_dev30 d0 v7) < nD) ∧
  (∀ (k0_h2 : k0_cond2 d0 v7 = 1#1), (k0_dev31 d0 v7) < nD) ∧
  (∀ (k0_h2 : k0_cond2 d0 v7 = 1#1), (k0_dev32 d0 v7) < nD) ∧
  (∀ (k0_h2 : k0_cond2 d0 v7 = 1#1), (k0_dev33 d0 v7) < nD) ∧
  (∀ (k0_h2 : k0_cond2 d0 v7 = 1#1), (k0_dev34 d0 v7) < nD)
theorem k0_dev3_lt : ∀ (d0 : Dev nD) (v7 : BitVec 32) (k0_hw1 : k0_chk1 d0 v7), ∀ (k0_h2 : k0_cond2 d0 v7 = 1#1), (k0_dev3 d0 v7) < nD := fun d0 v7 k0_hw1 k0_h2 => k0_hw1.1 k0_h2
theorem k0_dev4_lt : ∀ (d0 : Dev nD) (v7 : BitVec 32) (k0_hw1 : k0_chk1 d0 v7), ∀ (k0_h2 : k0_cond2 d0 v7 = 1#1), (k0_dev4 d0 v7) < nD := fun d0 v7 k0_hw1 k0_h2 => k0_hw1.2.1 k0_h2
theorem k0_dev5_lt : ∀ (d0 : Dev nD) (v7 : BitVec 32) (k0_hw1 : k0_chk1 d0 v7), ∀ (k0_h2 : k0_cond2 d0 v7 = 1#1), (k0_dev5 d0 v7) < nD := fun d0 v7 k0_hw1 k0_h2 => k0_hw1.2.2.1 k0_h2
theorem k0_dev6_lt : ∀ (d0 : Dev nD) (v7 : BitVec 32) (k0_hw1 : k0_chk1 d0 v7), ∀ (k0_h2 : k0_cond2 d0 v7 = 1#1), (k0_dev6 d0 v7) < nD := fun d0 v7 k0_hw1 k0_h2 => k0_hw1.2.2.2.1 k0_h2
theorem k0_dev7_lt : ∀ (d0 : Dev nD) (v7 : BitVec 32) (k0_hw1 : k0_chk1 d0 v7), ∀ (k0_h2 : k0_cond2 d0 v7 = 1#1), (k0_dev7 d0 v7) < nD := fun d0 v7 k0_hw1 k0_h2 => k0_hw1.2.2.2.2.1 k0_h2
theorem k0_dev8_lt : ∀ (d0 : Dev nD) (v7 : BitVec 32) (k0_hw1 : k0_chk1 d0 v7), ∀ (k0_h2 : k0_cond2 d0 v7 = 1#1), (k0_dev8 d0 v7) < nD := fun d0 v7 k0_hw1 k0_h2 => k0_hw1.2.2.2.2.2.1 k0_h2
theorem k0_dev9_lt : ∀ (d0 : Dev nD) (v7 : BitVec 32) (k0_hw1 : k0_chk1 d0 v7), ∀ (k0_h2 : k0_cond2 d0 v7 = 1#1), (k0_dev9 d0 v7) < nD := fun d0 v7 k0_hw1 k0_h2 => k0_hw1.2.2.2.2.2.2.1 k0_h2
theorem k0_dev10_lt : ∀ (d0 : Dev nD) (v7 : BitVec 32) (k0_hw1 : k0_chk1 d0 v7), ∀ (k0_h2 : k0_cond2 d0 v7 = 1#1), (k0_dev10 d0 v7) < nD := fun d0 v7 k0_hw1 k0_h2 => k0_hw1.2.2.2.2.2.2.2.1 k0_h2
theorem k0_dev11_lt : ∀ (d0 : Dev nD) (v7 : BitVec 32) (k0_hw1 : k0_chk1 d0 v7), ∀ (k0_h2 : k0_cond2 d0 v7 = 1#1), (k0_dev11 d0 v7) < nD := fun d0 v7 k0_hw1 k0_h2 => k0_hw1.2.2.2.2.2.2.2.2.1 k0_h2
theorem k0_dev12_lt : ∀ (d0 : Dev nD) (v7 : BitVec 32) (k0_hw1 : k0_chk1 d0 v7), ∀ (k0_h2 : k0_cond2 d0 v7 = 1#1), (k0_dev12 d0 v7) < nD := fun d0 v7 k0_hw1 k0_h2 => k0_hw1.2.2.2.2.2.2.2.2.2.1 k0_h2
theorem k0_dev13_lt : ∀ (d0 : Dev nD) (v7 : BitVec 32) (k0_hw1 : k0_chk1 d0 v7), ∀ (k0_h2 : k0_cond2 d0 v7 = 1#1), (k0_dev13 d0 v7) < nD := fun d0 v7 k0_hw1 k0_h2 => k0_hw1.2.2.2.2.2.2.2.2.2.2.1 k0_h2
theorem k0_dev14_lt : ∀ (d0 : Dev nD) (v7 : BitVec 32) (k0_hw1 : k0_chk1 d0 v7), ∀ (k0_h2 : k0_cond2 d0 v7 = 1#1), (k0_dev14 d0 v7) < nD := fun d0 v7 k0_hw1 k0_h2 => k0_hw1.2.2.2.2.2.2.2.2.2.2.2.1 k0_h2
theorem k0_dev15_lt : ∀ (d0 : Dev nD) (v7 : BitVec 32) (k0_hw1 : k0_chk1 d0 v7), ∀ (k0_h2 : k0_cond2 d0 v7 = 1#1), (k0_dev15 d0 v7) < nD := fun d0 v7 k0_hw1 k0_h2 => k0_hw1.2.2.2.2.2.2.2.2.2.2.2.2.1 k0_h2
theorem k0_dev16_lt : ∀ (d0 : Dev nD) (v7 : BitVec 32) (k0_hw1 : k0_chk1 d0 v7), ∀ (k0_h2 : k0_cond2 d0 v7 = 1#1), (k0_dev16 d0 v7) < nD := fun d0 v7 k0_hw1 k0_h2 => k0_hw1.2.2.2.2.2.2.2.2.2.2.2.2.2.1 k0_h2
theorem k0_dev17_lt : ∀ (d0 : Dev nD) (v7 : BitVec 32) (k0_hw1 : k0_chk1 d0 v7), ∀ (k0_h2 : k0_cond2 d0 v7 = 1#1), (k0_dev17 d0 v7) < nD := fun d0 v7 k0_hw1 k0_h2 => k0_hw1.2.2.2.2.2.2.2.2.2.2.2.2.2.2.1 k0_h2
theorem k0_dev18_lt : ∀ (d0 : Dev nD) (v7 : BitVec 32) (k0_hw1 : k0_chk1 d0 v7), ∀ (k0_h2 : k0_cond2 d0 v7 = 1#1), (k0_dev18 d0 v7) < nD := fun d0 v7 k0_hw1 k0_h2 => k0_hw1.2.2.2.2.2.2.2.2.2.2.2.2.2.2.2.1 k0_h2
theorem k0_dev19_lt : ∀ (d0 : Dev nD) (v7 : BitVec 32) (k0_hw1 : k0_chk1 d0 v7), ∀ (k0_h2 : k0_cond2 d0 v7 = 1#1), (k0_dev19 d0 v7) < nD := fun d0 v7 k0_hw1 k0_h2 => k0_hw1.2.2.2.2.2.2.2.2.2.2.2.2.2.2.2.2.1 k0_h2
theorem k0_dev20_lt : ∀ (d0 : Dev nD) (v7 : BitVec 32) (k0_hw1 : k0_chk1 d0 v7), ∀ (k0_h2 : k0_cond2 d0 v7 = 1#1), (k0_dev20 d0 v7) < nD := fun d0 v7 k0_hw1 k0_h2 => k0_hw1.2.2.2.2.2.2.2.2.2.2.2.2.2.2.2.2.2.1 k0_h2
theorem k0_dev21_lt : ∀ (d0 : Dev nD) (v7 : BitVec 32) (k0_hw1 : k0_chk1 d0 v7), ∀ (k0_h2 : k0_cond2 d0 v7 = 1#1), (k0_dev21 d0 v7) < nD := fun d0 v7 k0_hw1 k0_h2 => k0_hw1.2.2.2.2.2.2.2.2.2.2.2.2.2.2.2.2.2.2.1 k0_h2
theorem k0_dev22_lt : ∀ (d0 : Dev nD) (v7 : BitVec 32) (k0_hw1 : k0_chk1 d0 v7), ∀ (k0_h2 : k0_cond2 d0 v7 = 1#1), (k0_dev22 d0 v7) < nD := fun d0 v7 k0_hw1 k0_h2 => k0_hw1.2.2.2.2.2.2.2.2.2.2.2.2.2.2.2.2.2.2.2.1 k0_h2
theorem k0_dev23_lt : ∀ (d0 : Dev nD) (v7 : BitVec 32) (k0_hw1 : k0_chk1 d0 v7), ∀ (k0_h2 : k0_cond2 d0 v7 = 1#1), (k0_dev23 d0 v7) < nD := fun d0 v7 k0_hw1 k0_h2 => k0_hw1.2.2.2.2.2.2.2.2.2.2.2.2.2.2.2.2.2.2.2.2.1 k0_h2
theorem k0_dev24_lt : ∀ (d0 : Dev nD) (v7 : BitVec 32) (k0_hw1 : k0_chk1 d0 v7), ∀ (k0_h2 : k0_cond2 d0 v7 = 1#1), (k0_dev24 d0 v7) < nD := fun d0 v7 k0_hw1 k0_h2 => k0_hw1.2.2.2.2.2.2.2.2.2.2.2.2.2.2.2.2.2.2.2.2.2.1 k0_h2
theorem k0_dev25_lt : ∀ (d0 : Dev nD) (v7 : BitVec 32) (k0_hw1 : k0_chk1 d0 v7), ∀ (k0_h2 : k0_cond2 d0 v7 = 1#1), (k0_dev25 d0 v7) < nD := fun d0 v7 k0_hw1 k0_h2 => k0_hw1.2.2.2.2.2.2.2.2.2.2.2.2.2.2.2.2.2.2.2.2.2.2.1 k0_h2
theorem k0_dev26_lt : ∀ (d0 : Dev nD) (v7 : BitVec 32) (k0_hw1 : k0_chk1 d0 v7), ∀ (k0_h2 : k0_cond2 d0 v7 = 1#1), (k0_dev26 d0 v7) < nD := fun d0 v7 k0_hw1 k0_h2 => k0_hw1.2.2.2.2.2.2.2.2.2.2.2.2.2.2.2.2.2.2.2.2.2.2.2.1 k0_h2
theorem k0_dev27_lt : ∀ (d0 : Dev nD) (v7 : BitVec 32) (k0_hw1 : k0_chk1 d0 v7), ∀ (k0_h2 : k0_cond2 d0 v7 = 1#1), (k0_dev27 d0 v7) < nD := fun d0 v7 k0_hw1 k0_h2 => k0_hw1.2.2.2.2.2.2.2.2.2.2.2.2.2.2.2.2.2.2.2.2.2.2.2.2.1 k0_h2
theorem k0_dev28_lt : ∀ (d0 : Dev nD) (v7 : BitVec 32) (k0_hw1 : k0_chk1 d0 v7), ∀ (k0_h2 : k0_cond2 d0 v7 = 1#1), (k0_dev28 d0 v7) < nD := fun d0 v7 k0_hw1 k0_h2 => k0_hw1.2.2.2.2.2.2.2.2.2.2.2.2.2.2.2.2.2.2.2.2.2.2.2.2.2.1 k0_h2
theorem k0_dev29_lt : ∀ (d0 : Dev nD) (v7 : BitVec 32) (k0_hw1 : k0_chk1 d0 v7), ∀ (k0_h2 : k0_cond2 d0 v7 = 1#1), (k0_dev29 d0 v7) < nD := fun d0 v7 k0_hw1 k0_h2 => k0_hw1.2.2.2.2.2.2.2.2.2.2.2.2.2.2.2.2.2.2.2.2.2.2.2.2.2.2.1 k0_h2
theorem k0_dev30_lt : ∀ (d0 : Dev nD) (v7 : BitVec 32) (k0_hw1 : k0_chk1 d0 v7), ∀ (k0_h2 : k0_cond2 d0 v7 = 1#1), (k0_dev30 d0 v7) < nD := fun d0 v7 k0_hw1 k0_h2 => k0_hw1.2.2.2.2.2.2.2.2.2.2.2.2.2.2.2.2.2.2.2.2.2.2.2.2.2.2.2.1 k0_h2
theorem k0_dev31_lt : ∀ (d0 : Dev nD) (v7 : BitVec 32) (k0_hw1 : k0_chk1 d0 v7), ∀ (k0_h2 : k0_cond2 d0 v7 = 1#1), (k0_dev31 d0 v7) < nD := fun d0 v7 k0_hw1 k0_h2 => k0_hw1.2.2.2.2.2.2.2.2.2.2.2.2.2.2.2.2.2.2.2.2.2.2.2.2.2.2.2.2.1 k0_h2
theorem k0_dev32_lt : ∀ (d0 : Dev nD) (v7 : BitVec 32) (k0_hw1 : k0_chk1 d0 v7), ∀ (k0_h2 : k0_cond2 d0 v7 = 1#1), (k0_dev32 d0 v7) < nD := fun d0 v7 k0_hw1 k0_h2 => k0_hw1.2.2.2.2.2.2.2.2.2.2.2.2.2.2.2.2.2.2.2.2.2.2.2.2.2.2.2.2.2.1 k0_h2
theorem k0_dev33_lt : ∀ (d0 : Dev nD) (v7 : BitVec 32) (k0_hw1 : k0_chk1 d0 v7), ∀ (k0_h2 : k0_cond2 d0 v7 = 1#1), (k0_dev33 d0 v7) < nD := fun d0 v7 k0_hw1 k0_h2 => k0_hw1.2.2.2.2.2.2.2.2.2.2.2.2.2.2.2.2.2.2.2.2.2.2.2.2.2.2.2.2.2.2.1 k0_h2
theorem k0_dev34_lt : ∀ (d0 : Dev nD) (v7 : BitVec 32) (k0_hw1 : k0_chk1 d0 v7), ∀ (k0_h2 : k0_cond2 d0 v7 = 1#1), (k0_dev34 d0 v7) < nD := fun d0 v7 k0_hw1 k0_h2 => k0_hw1.2.2.2.2.2.2.2.2.2.2.2.2.2.2.2.2.2.2.2.2.2.2.2.2.2.2.2.2.2.2.2 k0_h2

def k0_dev35 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_287 : BitVec 32 := 2#32
  let v387 : BitVec 32 := Scalar.muli v2 c2_i32_287
  let v388 : BitVec 32 := Scalar.addi c0_i32_288 v387
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_289 : BitVec 32 := 1#32
  let v389 : BitVec 32 := Scalar.muli v9 c1_i32_289
  let v390 : BitVec 32 := Scalar.addi v388 v389
  v390.toNat
def k0_dev36 (d0 : Dev nD) : Nat :=
  let c0_i32_307 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_306 : BitVec 32 := 2#32
  let v406 : BitVec 32 := Scalar.muli v2 c2_i32_306
  let v407 : BitVec 32 := Scalar.addi c0_i32_307 v406
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_308 : BitVec 32 := 1#32
  let v408 : BitVec 32 := Scalar.muli v9 c1_i32_308
  let v409 : BitVec 32 := Scalar.addi v407 v408
  v409.toNat
def k0_dev37 (d0 : Dev nD) : Nat :=
  let c0_i32_326 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_325 : BitVec 32 := 2#32
  let v425 : BitVec 32 := Scalar.muli v2 c2_i32_325
  let v426 : BitVec 32 := Scalar.addi c0_i32_326 v425
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_327 : BitVec 32 := 1#32
  let v427 : BitVec 32 := Scalar.muli v9 c1_i32_327
  let v428 : BitVec 32 := Scalar.addi v426 v427
  v428.toNat
def k0_dev38 (d0 : Dev nD) : Nat :=
  let c0_i32_345 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_344 : BitVec 32 := 2#32
  let v444 : BitVec 32 := Scalar.muli v2 c2_i32_344
  let v445 : BitVec 32 := Scalar.addi c0_i32_345 v444
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_346 : BitVec 32 := 1#32
  let v446 : BitVec 32 := Scalar.muli v9 c1_i32_346
  let v447 : BitVec 32 := Scalar.addi v445 v446
  v447.toNat
def k0_dev39 (d0 : Dev nD) : Nat :=
  let c0_i32_364 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_363 : BitVec 32 := 2#32
  let v463 : BitVec 32 := Scalar.muli v2 c2_i32_363
  let v464 : BitVec 32 := Scalar.addi c0_i32_364 v463
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_365 : BitVec 32 := 1#32
  let v465 : BitVec 32 := Scalar.muli v9 c1_i32_365
  let v466 : BitVec 32 := Scalar.addi v464 v465
  v466.toNat
def k0_dev40 (d0 : Dev nD) : Nat :=
  let c0_i32_383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_382 : BitVec 32 := 2#32
  let v482 : BitVec 32 := Scalar.muli v2 c2_i32_382
  let v483 : BitVec 32 := Scalar.addi c0_i32_383 v482
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_384 : BitVec 32 := 1#32
  let v484 : BitVec 32 := Scalar.muli v9 c1_i32_384
  let v485 : BitVec 32 := Scalar.addi v483 v484
  v485.toNat
def k0_dev41 (d0 : Dev nD) : Nat :=
  let c0_i32_402 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_401 : BitVec 32 := 2#32
  let v501 : BitVec 32 := Scalar.muli v2 c2_i32_401
  let v502 : BitVec 32 := Scalar.addi c0_i32_402 v501
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_403 : BitVec 32 := 1#32
  let v503 : BitVec 32 := Scalar.muli v9 c1_i32_403
  let v504 : BitVec 32 := Scalar.addi v502 v503
  v504.toNat
def k0_dev42 (d0 : Dev nD) : Nat :=
  let c0_i32_421 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_420 : BitVec 32 := 2#32
  let v520 : BitVec 32 := Scalar.muli v2 c2_i32_420
  let v521 : BitVec 32 := Scalar.addi c0_i32_421 v520
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_422 : BitVec 32 := 1#32
  let v522 : BitVec 32 := Scalar.muli v9 c1_i32_422
  let v523 : BitVec 32 := Scalar.addi v521 v522
  v523.toNat
def k0_dev43 (d0 : Dev nD) : Nat :=
  let c0_i32_440 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_439 : BitVec 32 := 2#32
  let v539 : BitVec 32 := Scalar.muli v2 c2_i32_439
  let v540 : BitVec 32 := Scalar.addi c0_i32_440 v539
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_441 : BitVec 32 := 1#32
  let v541 : BitVec 32 := Scalar.muli v9 c1_i32_441
  let v542 : BitVec 32 := Scalar.addi v540 v541
  v542.toNat
def k0_dev44 (d0 : Dev nD) : Nat :=
  let c0_i32_459 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_458 : BitVec 32 := 2#32
  let v558 : BitVec 32 := Scalar.muli v2 c2_i32_458
  let v559 : BitVec 32 := Scalar.addi c0_i32_459 v558
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_460 : BitVec 32 := 1#32
  let v560 : BitVec 32 := Scalar.muli v9 c1_i32_460
  let v561 : BitVec 32 := Scalar.addi v559 v560
  v561.toNat
def k0_dev45 (d0 : Dev nD) : Nat :=
  let c0_i32_478 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_477 : BitVec 32 := 2#32
  let v577 : BitVec 32 := Scalar.muli v2 c2_i32_477
  let v578 : BitVec 32 := Scalar.addi c0_i32_478 v577
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_479 : BitVec 32 := 1#32
  let v579 : BitVec 32 := Scalar.muli v9 c1_i32_479
  let v580 : BitVec 32 := Scalar.addi v578 v579
  v580.toNat
def k0_dev46 (d0 : Dev nD) : Nat :=
  let c0_i32_497 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_496 : BitVec 32 := 2#32
  let v596 : BitVec 32 := Scalar.muli v2 c2_i32_496
  let v597 : BitVec 32 := Scalar.addi c0_i32_497 v596
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_498 : BitVec 32 := 1#32
  let v598 : BitVec 32 := Scalar.muli v9 c1_i32_498
  let v599 : BitVec 32 := Scalar.addi v597 v598
  v599.toNat
def k0_dev47 (d0 : Dev nD) : Nat :=
  let c0_i32_516 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_515 : BitVec 32 := 2#32
  let v615 : BitVec 32 := Scalar.muli v2 c2_i32_515
  let v616 : BitVec 32 := Scalar.addi c0_i32_516 v615
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_517 : BitVec 32 := 1#32
  let v617 : BitVec 32 := Scalar.muli v9 c1_i32_517
  let v618 : BitVec 32 := Scalar.addi v616 v617
  v618.toNat
def k0_dev48 (d0 : Dev nD) : Nat :=
  let c0_i32_535 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_534 : BitVec 32 := 2#32
  let v634 : BitVec 32 := Scalar.muli v2 c2_i32_534
  let v635 : BitVec 32 := Scalar.addi c0_i32_535 v634
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_536 : BitVec 32 := 1#32
  let v636 : BitVec 32 := Scalar.muli v9 c1_i32_536
  let v637 : BitVec 32 := Scalar.addi v635 v636
  v637.toNat
def k0_dev49 (d0 : Dev nD) : Nat :=
  let c0_i32_554 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_553 : BitVec 32 := 2#32
  let v653 : BitVec 32 := Scalar.muli v2 c2_i32_553
  let v654 : BitVec 32 := Scalar.addi c0_i32_554 v653
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_555 : BitVec 32 := 1#32
  let v655 : BitVec 32 := Scalar.muli v9 c1_i32_555
  let v656 : BitVec 32 := Scalar.addi v654 v655
  v656.toNat
def k0_dev50 (d0 : Dev nD) : Nat :=
  let c0_i32_573 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_572 : BitVec 32 := 2#32
  let v672 : BitVec 32 := Scalar.muli v2 c2_i32_572
  let v673 : BitVec 32 := Scalar.addi c0_i32_573 v672
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_574 : BitVec 32 := 1#32
  let v674 : BitVec 32 := Scalar.muli v9 c1_i32_574
  let v675 : BitVec 32 := Scalar.addi v673 v674
  v675.toNat
def k0_dev51 (d0 : Dev nD) : Nat :=
  let c0_i32_592 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_591 : BitVec 32 := 2#32
  let v691 : BitVec 32 := Scalar.muli v2 c2_i32_591
  let v692 : BitVec 32 := Scalar.addi c0_i32_592 v691
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_593 : BitVec 32 := 1#32
  let v693 : BitVec 32 := Scalar.muli v9 c1_i32_593
  let v694 : BitVec 32 := Scalar.addi v692 v693
  v694.toNat
def k0_dev52 (d0 : Dev nD) : Nat :=
  let c0_i32_611 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_610 : BitVec 32 := 2#32
  let v710 : BitVec 32 := Scalar.muli v2 c2_i32_610
  let v711 : BitVec 32 := Scalar.addi c0_i32_611 v710
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_612 : BitVec 32 := 1#32
  let v712 : BitVec 32 := Scalar.muli v9 c1_i32_612
  let v713 : BitVec 32 := Scalar.addi v711 v712
  v713.toNat
def k0_dev53 (d0 : Dev nD) : Nat :=
  let c0_i32_630 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_629 : BitVec 32 := 2#32
  let v729 : BitVec 32 := Scalar.muli v2 c2_i32_629
  let v730 : BitVec 32 := Scalar.addi c0_i32_630 v729
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_631 : BitVec 32 := 1#32
  let v731 : BitVec 32 := Scalar.muli v9 c1_i32_631
  let v732 : BitVec 32 := Scalar.addi v730 v731
  v732.toNat
def k0_dev54 (d0 : Dev nD) : Nat :=
  let c0_i32_649 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_648 : BitVec 32 := 2#32
  let v748 : BitVec 32 := Scalar.muli v2 c2_i32_648
  let v749 : BitVec 32 := Scalar.addi c0_i32_649 v748
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_650 : BitVec 32 := 1#32
  let v750 : BitVec 32 := Scalar.muli v9 c1_i32_650
  let v751 : BitVec 32 := Scalar.addi v749 v750
  v751.toNat
def k0_dev55 (d0 : Dev nD) : Nat :=
  let c0_i32_668 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_667 : BitVec 32 := 2#32
  let v767 : BitVec 32 := Scalar.muli v2 c2_i32_667
  let v768 : BitVec 32 := Scalar.addi c0_i32_668 v767
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_669 : BitVec 32 := 1#32
  let v769 : BitVec 32 := Scalar.muli v9 c1_i32_669
  let v770 : BitVec 32 := Scalar.addi v768 v769
  v770.toNat
def k0_dev56 (d0 : Dev nD) : Nat :=
  let c0_i32_687 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_686 : BitVec 32 := 2#32
  let v786 : BitVec 32 := Scalar.muli v2 c2_i32_686
  let v787 : BitVec 32 := Scalar.addi c0_i32_687 v786
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_688 : BitVec 32 := 1#32
  let v788 : BitVec 32 := Scalar.muli v9 c1_i32_688
  let v789 : BitVec 32 := Scalar.addi v787 v788
  v789.toNat
def k0_dev57 (d0 : Dev nD) : Nat :=
  let c0_i32_706 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_705 : BitVec 32 := 2#32
  let v805 : BitVec 32 := Scalar.muli v2 c2_i32_705
  let v806 : BitVec 32 := Scalar.addi c0_i32_706 v805
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_707 : BitVec 32 := 1#32
  let v807 : BitVec 32 := Scalar.muli v9 c1_i32_707
  let v808 : BitVec 32 := Scalar.addi v806 v807
  v808.toNat
def k0_dev58 (d0 : Dev nD) : Nat :=
  let c0_i32_725 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_724 : BitVec 32 := 2#32
  let v824 : BitVec 32 := Scalar.muli v2 c2_i32_724
  let v825 : BitVec 32 := Scalar.addi c0_i32_725 v824
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_726 : BitVec 32 := 1#32
  let v826 : BitVec 32 := Scalar.muli v9 c1_i32_726
  let v827 : BitVec 32 := Scalar.addi v825 v826
  v827.toNat
def k0_dev59 (d0 : Dev nD) : Nat :=
  let c0_i32_744 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_743 : BitVec 32 := 2#32
  let v843 : BitVec 32 := Scalar.muli v2 c2_i32_743
  let v844 : BitVec 32 := Scalar.addi c0_i32_744 v843
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_745 : BitVec 32 := 1#32
  let v845 : BitVec 32 := Scalar.muli v9 c1_i32_745
  let v846 : BitVec 32 := Scalar.addi v844 v845
  v846.toNat
def k0_dev60 (d0 : Dev nD) : Nat :=
  let c0_i32_763 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_762 : BitVec 32 := 2#32
  let v862 : BitVec 32 := Scalar.muli v2 c2_i32_762
  let v863 : BitVec 32 := Scalar.addi c0_i32_763 v862
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_764 : BitVec 32 := 1#32
  let v864 : BitVec 32 := Scalar.muli v9 c1_i32_764
  let v865 : BitVec 32 := Scalar.addi v863 v864
  v865.toNat
def k0_dev61 (d0 : Dev nD) : Nat :=
  let c0_i32_782 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_781 : BitVec 32 := 2#32
  let v881 : BitVec 32 := Scalar.muli v2 c2_i32_781
  let v882 : BitVec 32 := Scalar.addi c0_i32_782 v881
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_783 : BitVec 32 := 1#32
  let v883 : BitVec 32 := Scalar.muli v9 c1_i32_783
  let v884 : BitVec 32 := Scalar.addi v882 v883
  v884.toNat
def k0_dev62 (d0 : Dev nD) : Nat :=
  let c0_i32_801 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_800 : BitVec 32 := 2#32
  let v900 : BitVec 32 := Scalar.muli v2 c2_i32_800
  let v901 : BitVec 32 := Scalar.addi c0_i32_801 v900
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_802 : BitVec 32 := 1#32
  let v902 : BitVec 32 := Scalar.muli v9 c1_i32_802
  let v903 : BitVec 32 := Scalar.addi v901 v902
  v903.toNat
def k0_dev63 (d0 : Dev nD) : Nat :=
  let c0_i32_820 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_819 : BitVec 32 := 2#32
  let v919 : BitVec 32 := Scalar.muli v2 c2_i32_819
  let v920 : BitVec 32 := Scalar.addi c0_i32_820 v919
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_821 : BitVec 32 := 1#32
  let v921 : BitVec 32 := Scalar.muli v9 c1_i32_821
  let v922 : BitVec 32 := Scalar.addi v920 v921
  v922.toNat
def k0_dev64 (d0 : Dev nD) : Nat :=
  let c0_i32_839 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_838 : BitVec 32 := 2#32
  let v938 : BitVec 32 := Scalar.muli v2 c2_i32_838
  let v939 : BitVec 32 := Scalar.addi c0_i32_839 v938
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_840 : BitVec 32 := 1#32
  let v940 : BitVec 32 := Scalar.muli v9 c1_i32_840
  let v941 : BitVec 32 := Scalar.addi v939 v940
  v941.toNat
def k0_dev65 (d0 : Dev nD) : Nat :=
  let c0_i32_858 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_857 : BitVec 32 := 2#32
  let v957 : BitVec 32 := Scalar.muli v2 c2_i32_857
  let v958 : BitVec 32 := Scalar.addi c0_i32_858 v957
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_859 : BitVec 32 := 1#32
  let v959 : BitVec 32 := Scalar.muli v9 c1_i32_859
  let v960 : BitVec 32 := Scalar.addi v958 v959
  v960.toNat
def k0_dev66 (d0 : Dev nD) : Nat :=
  let c0_i32_877 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_876 : BitVec 32 := 2#32
  let v976 : BitVec 32 := Scalar.muli v2 c2_i32_876
  let v977 : BitVec 32 := Scalar.addi c0_i32_877 v976
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c1_i32_878 : BitVec 32 := 1#32
  let v978 : BitVec 32 := Scalar.muli v9 c1_i32_878
  let v979 : BitVec 32 := Scalar.addi v977 v978
  v979.toNat
def k0_off3 (d0 : Dev nD) (c0_i32_884 : BitVec 32) : Fin 3 → Nat :=
  let c0_i32_890 : BitVec 32 := 0#32
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v9 : BitVec 32 := Scalar.subi c1_i32_3 v5
  let c512_i32_883 : BitVec 32 := 512#32
  let v986 : BitVec 32 := Scalar.muli v9 c512_i32_883
  let v987 : BitVec 32 := Scalar.addi v986 c0_i32_884
  let c0_i32_891 : BitVec 32 := 0#32
  ![0, v987.toNat, 0]
abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x1024x1024 : Shape := ⟨3, ![2, 1024, 1024]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Ref.lean ====
module

public import Idealize.ShloMosaic.Lib.Claim
public import Idealize.ShloMosaic.Lib.Quiescent
public import proofs.«01_k».proof.ReferenceIdeal
public import proofs.«01_k».proof.Proof.Gen.ReferenceIdeal

@[expose] public section

noncomputable section

namespace Cert.ReferenceIdeal.Ref

open Idealize.ShloMosaic Idealize.ShloMosaic.TcCoe Idealize.ShloMosaic.StableHlo Idealize.SL.Sem
open Cert.ReferenceIdeal Cert.ReferenceIdeal.Gen

variable {F : FTy → Type} [FloatOps F]

/-- The sorting positions of a table of two words, as the reference writes them: the sort of the
    positions by the table's words, a negative position moved up by two. -/
def order (pi : IVec S2 32) : IVec S2 32 :=
  let s := (Host.sort2 S2 0 comparator_i32_i32_d0 pi (iotaInDim S2 32 0)).2
  select (cmpi .slt s (broadcastInDim S2 ![] Facts₀.bcast_S_S2 (constantI S_ 32 0#32)))
    (addi s (broadcastInDim S2 ![] Facts₀.bcast_S_S2 (constantI S_ 32 2#32))) s

/-- The array with its two blocks taken in the order that sorts the table. -/
def taken (x : FVec F S2x1024x1024 .f32) (pi : IVec S2 32) : FVec F S2x1024x1024 .f32 :=
  Host.gather gather_S2x1024x1024_S2x1_S2x1024x1024_12_0_n_n_0_1_110241024 x
    (broadcastInDim S2x1 ![0] Facts₀.bcast_S2_S2x1_0 (order pi))

/-- The reference's run: its result is `taken` of its arguments, which end as they began, and every
    counter ends at zero (the program has no semaphore). -/
theorem run_main (m : (ℓ : Loc nD τ sig) → Buf (Elt F) ℓ) (ρ : Dev nD → PrngReg) :
    θ_run defs (onTc (τ := τ) (main (F := F))) ⟨m, fun _ => 0, ρ⟩ (fun r =>
      (∀ c : Dev nD,
        r.2.mem ((c.tc : Thread nD τ).loc main_v7)
            = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  have run : θ_run defs (onTc (τ := τ) (main (F := F))) ⟨m, fun _ => 0, ρ⟩ (fun r =>
      ∀ c : Dev nD,
        r.2.mem ((c.tc : Thread nD τ).loc main_v7)
            = taken (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) := by
    hlo_run
    rfl
  exact θ_run_mono run fun r h => ⟨h, sem_eq_zero_of_no_sems rfl r.2⟩

/-! ## The order that sorts each of the two tables -/

/-- The table of two words. -/
def table (a b : BitVec 32) : IVec S2 32 := fun i => if (i 0).val = 0 then a else b

/-- The place of word `u` in a table. -/
def word (u : Fin 2) : S2.Idx := fun a => ⟨u.val, by fin_cases a; exact u.isLt⟩

/-- Every place in a table is the place of a word. -/
theorem eq_word (i : S2.Idx) : i = word ⟨(i 0).val, (i 0).isLt⟩ := funext fun a => by fin_cases a; rfl

/-- A table is the table of its two entries. -/
theorem eq_table (pi : IVec S2 32) : pi = table (pi (word 0)) (pi (word 1)) := by
  funext i
  rw [eq_word i]
  generalize (⟨(i 0).val, (i 0).isLt⟩ : Fin 2) = u
  match u with
  | 0 => rfl
  | 1 => rfl

/-- The table `1, 0` is sorted by taking its second word first. -/
theorem order_swapped : order (table 1#32 0#32) = table 1#32 0#32 := by decide +kernel

/-- The table `0, 1` is sorted already. -/
theorem order_in_place : order (table 0#32 1#32) = table 0#32 1#32 := by decide +kernel

/-! ## The blocks taken -/

/-- The place that `u`'s word has in the column of start indices. -/
def start (u : Fin 2) : S2x1.Idx := fun a => ⟨if a = 0 then u.val else 0, by fin_cases a <;> simp [u.isLt]⟩

/-- Where the gather reads: the block is the one its start index names, read as a signed number and
    held to the two there are; the other coordinates are the element's own. -/
theorem gather_at (x : FVec F S2x1024x1024 .f32) (idx : IVec S2x1 32) (j k : S2x1024x1024.Idx)
    (h0 : (k 0).val = min (idx (start ⟨(j 0).val, (j 0).isLt⟩)).toInt.toNat 1)
    (h1 : (k 1).val = (j 1).val) (h2 : (k 2).val = (j 2).val) :
    Host.gather gather_S2x1024x1024_S2x1_S2x1024x1024_12_0_n_n_0_1_110241024 x idx j = x k := by
  refine congrArg x (funext fun a => Fin.ext ?_)
  show GatherDims.start _ j idx a + GatherDims.batchCoord _ j a + GatherDims.offCoord _ j a = (k a).val
  match a with
  | 0 =>
    refine Eq.trans ?_ h0.symm
    refine congrArg (fun p => min (idx p).toInt.toNat 1) (funext fun b => ?_)
    match b with
    | 0 => rfl
    | 1 => rfl
  | 1 =>
    refine Eq.trans ?_ h1.symm
    exact Nat.zero_add _
  | 2 =>
    refine Eq.trans ?_ h2.symm
    exact Nat.zero_add _

/-- Where an element of the taken array is read: its block is the one that the order names. -/
theorem taken_at (x : FVec F S2x1024x1024 .f32) (pi : IVec S2 32) (j k : S2x1024x1024.Idx)
    (h0 : (k 0).val = min (order pi (word ⟨(j 0).val, (j 0).isLt⟩)).toInt.toNat 1)
    (h1 : (k 1).val = (j 1).val) (h2 : (k 2).val = (j 2).val) :
    taken x pi j = x k := by
  refine gather_at x _ j k (h0.trans ?_) h1 h2
  refine congrArg (fun p => min (order pi p).toInt.toNat 1) (funext fun a => Fin.ext ?_)
  match a with
  | 0 => rfl

end Cert.ReferenceIdeal.Ref

end
-- ==== Proof.Pre.lean ====
module

public import proofs.«01_k».proof.Proof.Ref
public import proofs.«01_k».proof.Pre_swapped_Kernel
public import proofs.«01_k».proof.Pre_in_place_Kernel

@[expose] public section

noncomputable section

namespace Cert.Proof.Pre

open Idealize.ShloMosaic
open Cert.ReferenceIdeal (S2 S_)
open Cert.ReferenceIdeal.Ref

variable {F : FTy → Type} [FloatOps F]

/-- The table that names the other block for each place, or each place's own. -/
def tableOf (sw : Bool) : IVec S2 32 := if sw then table 1#32 0#32 else table 0#32 1#32

/-- Two comparisons that hold together hold each. -/
theorem both (a b u v : BitVec 32) (h : IntOp.andi (IntOp.cmpi .eq a u) (IntOp.cmpi .eq b v) = 1#1) : a = u ∧ b = v := by
  have bits : ∀ p q : Bool, IntOp.andi (BitVec.ofBool p) (BitVec.ofBool q) = 1#1 → p = true ∧ q = true := by decide
  exact ⟨eq_of_beq (bits _ _ h).1, eq_of_beq (bits _ _ h).2⟩

/-- The place `u` plus a coordinate on an axis of size one is the place of word `u`. -/
theorem place (u : Fin 2) (i : S2.Idx) (q : Fin 1) (h : (i 0).val = u.val + q.val) : word u = i := by
  funext a
  match a with
  | 0 => exact Fin.ext (by have := q.isLt; show u.val = (i 0).val; omega)

/-- The first precondition says that the table is `1, 0`. -/
theorem of_swapped [Cert.Pre_swapped_Kernel.Facts] (x : FVec F Cert.Pre_swapped_Kernel.S1x1024x1024 .f32) (pi : IVec S2 32)
    (h : Cert.Pre_swapped_Kernel.fn (F := F) x pi = fun _ => 1#1) : pi = tableOf true := by
  have e := congrFun h (fun a => a.elim0)
  obtain ⟨h0, h1⟩ := both (pi (word 0)) (pi (word 1)) 1#32 0#32 (Eq.trans (congrArg₂
    (fun p q => IntOp.andi (IntOp.cmpi .eq (pi p) 1#32) (IntOp.cmpi .eq (pi q) 0#32))
    (place 0 _ _ rfl) (place 1 _ _ rfl)) e)
  rw [eq_table pi, h0, h1]
  rfl

/-- The second precondition says that the table is `0, 1`. -/
theorem of_in_place [Cert.Pre_in_place_Kernel.Facts] (x : FVec F Cert.Pre_in_place_Kernel.S1x1024x1024 .f32) (pi : IVec S2 32)
    (h : Cert.Pre_in_place_Kernel.fn (F := F) x pi = fun _ => 1#1) : pi = tableOf false := by
  have e := congrFun h (fun a => a.elim0)
  obtain ⟨h0, h1⟩ := both (pi (word 0)) (pi (word 1)) 0#32 1#32 (Eq.trans (congrArg₂
    (fun p q => IntOp.andi (IntOp.cmpi .eq (pi p) 0#32) (IntOp.cmpi .eq (pi q) 1#32))
    (place 0 _ _ rfl) (place 1 _ _ rfl)) e)
  rw [eq_table pi, h0, h1]
  rfl

/-- Either table is the order that sorts it. -/
theorem order_tableOf (sw : Bool) : order (tableOf sw) = tableOf sw := by
  cases sw
  · exact order_in_place
  · exact order_swapped

end Cert.Proof.Pre

end
-- ==== Proof.Loop.lean ====
module

public import proofs.«01_k».proof.Proof.Gen.KernelIdeal
public import proofs.«01_k».proof.Proof.Gen.KernelIdeal.Points
public import Idealize.ShloMosaic.Lib.Pipeline.Regions

@[expose] public section

noncomputable section

namespace Cert.KernelIdeal.Kern

open Idealize.ShloMosaic Idealize.ShloMosaic.TcCoe Idealize.SL.Sem Cert.KernelIdeal

variable {F : FTy → Type} [FloatOps F]

/-- The type of the kernel body and of its pieces. -/
abbrev Piece (F : FTy → Type) [FloatOps F] := Prog (TpuEff nD τ sig (Elt F) Λ₀ .tc) PUnit

/-- Run one piece for every index of a list, in order. -/
def each {α : Type} (l : List α) (f : α → Piece F) : Piece F :=
  l.foldr (fun i rest => f i >>= fun _ => rest) (pure ⟨⟩)

/-- The thirty-two chunks in order. -/
abbrev chunks : List (Fin 32) := List.finRange 32

/-- The input block of the device. -/
abbrev xArr : Memref sig .tc .hbm S1x1024x1024 .f32 := Memref.whole main_arg0
/-- The output block of the device. -/
abbrev oArr : Memref sig .tc .hbm S1x1024x1024 .f32 := Memref.whole main_v1

/-- Chunk `i` of the half of a block the device moves along the first mesh axis. -/
abbrev mine (M : Memref sig .tc .hbm S1x1024x1024 .f32) (d : Dev nD) (i : Fin 32) : Memref sig .tc .hbm S1x16x1024 .f32 :=
  M.slice (Rect.unit (s := S1x1024x1024) (k0_off2 d (BitVec.ofNat 32 (16 * i.val))) S1x16x1024.size (Gen.k0_off2_inb d i)) (fun _ => rfl)
/-- Chunk `i` of the other half. -/
abbrev theirs (M : Memref sig .tc .hbm S1x1024x1024 .f32) (d : Dev nD) (i : Fin 32) : Memref sig .tc .hbm S1x16x1024 .f32 :=
  M.slice (Rect.unit (s := S1x1024x1024) (k0_off3 d (BitVec.ofNat 32 (16 * i.val))) S1x16x1024.size (Gen.k0_off3_inb d i)) (fun _ => rfl)

/-- Semaphore `i` of thirty-two is in its array. -/
theorem inb32 (i : Fin 32) : ∀ a, (![i.val] : Fin 1 → Nat) a + S1.size a ≤ S32.size a := by
  intro a; have : i.val < 32 := i.isLt; fin_cases a; show i.val + 1 ≤ 32; omega

/-- The `i`-th semaphore of an array of thirty-two. -/
abbrev semAt (A : DmaSems sig S32) (i : Fin 32) : DmaSem sig :=
  ((A.slice (Rect.unit (s := S32) ![i.val] S1.size (inb32 i))).squeeze S_ Gen.squeezes_S1_S_).sem

/-- Send chunk `i` of the input to the device the table names. -/
def xSend (d : Dev nD) (w : Elt F .i32) (hw : k0_chk1 d w) (h : k0_cond2 d w = 1#1) (i : Fin 32) : Piece F :=
  Prog.lift (.enqueueDma (mine xArr d i) (.remote (Dev.tc (⟨k0_dev3 d w, k0_dev3_lt d w hw h⟩ : Dev nD)) (mine oArr d i)
    (.dma (semAt cc0_scratch0 i))) (.dma (semAt cc0_scratch2 i)) (View.wordExact_bits rfl) (View.wordExact_bits rfl) ⟨⟨rfl, Or.inl rfl⟩, trivial⟩)

/-- Wait for chunk `i` to arrive and pass it on along the second mesh axis. -/
def relay (d : Dev nD) (i : Fin 32) : Piece F := do
  Prog.lift (.waitDma2 (semAt cc0_scratch2 i) (mine oArr d i) (mine oArr d i) (View.wordExact_bits rfl) (View.wordExact_bits rfl))
  Prog.lift (.enqueueDma (mine oArr d i) (.remote (Dev.tc (⟨k0_dev35 d, Gen.k0_dev35_lt d⟩ : Dev nD)) (mine oArr d i)
    (.dma (semAt cc0_scratch1 i))) (.dma (semAt cc0_scratch3 i)) (View.wordExact_bits rfl) (View.wordExact_bits rfl) ⟨⟨rfl, Or.inl rfl⟩, trivial⟩)

/-- Wait for chunk `i` of the other half. -/
def yWait (d : Dev nD) (i : Fin 32) : Piece F :=
  Prog.lift (.waitDma2 (semAt cc0_scratch3 i) (theirs oArr d i) (theirs oArr d i) (View.wordExact_bits rfl) (View.wordExact_bits rfl))

/-- Wait until the send of chunk `i` has read its source. -/
def xDone (d : Dev nD) (i : Fin 32) : Piece F :=
  Prog.lift (.waitDma2 (semAt cc0_scratch0 i) (mine oArr d i) (mine xArr d i) (View.wordExact_bits rfl) (View.wordExact_bits rfl))

/-- Wait until the relay of chunk `i` has read its source. -/
def yDone (d : Dev nD) (i : Fin 32) : Piece F :=
  Prog.lift (.waitDma2 (semAt cc0_scratch1 i) (mine oArr d i) (mine oArr d i) (View.wordExact_bits rfl) (View.wordExact_bits rfl))

/-- The exchange: all sends, all relays, all waits. -/
def exchange (d : Dev nD) (w : Elt F .i32) (hw : k0_chk1 d w) (h : k0_cond2 d w = 1#1) : Piece F := do
  each chunks (xSend d w hw h)
  each chunks (relay d)
  each chunks (yWait d)
  each chunks (xDone d)
  each chunks (yDone d)

/-- The kernel body, its unrolled chunks folded back into loops. -/
def loopBody (arg1 : Memref sig .tc .smem S2 .i32) : Piece F := do
  let d0 : Dev nD ← Prog.lift .deviceId
  let v7 : Elt F .i32 ← smemLoad arg1 (Rect.unit (s := S2) (k0_off1 d0) S1.size (Gen.k0_off1_inb d0)) Gen.numel1_S1 rfl
  have hw : k0_chk1 d0 v7 := (← Prog.lift (TpuEff.assume (k0_chk1 d0 v7) (k0_chk1.dec d0 v7))).down
  semSignalWord (⟨k0_dev1 d0, Gen.k0_dev1_lt d0⟩ : Dev nD) (SemArray.scalar (sig.barrier 0 rfl) : Sems sig S_).sem 1#32
  semSignalWord (⟨k0_dev2 d0, Gen.k0_dev2_lt d0⟩ : Dev nD) (SemArray.scalar (sig.barrier 0 rfl) : Sems sig S_).sem 1#32
  semWaitWord (SemArray.scalar (sig.barrier 0 rfl) : Sems sig S_).sem 2#32
  if Scalar.cmpi .ne (Scalar.extui (Scalar.cmpi .eq v7 (Scalar.remsi (Scalar.divsi (Dev.word d0) 2#32) 2#32))) 0#32 = 1#1 then do
    Prog.lift (.enqueueDma xArr (.here oArr) (.dma cc0_scratch4.sem) (Memref.isWhole_whole _).wordExact (Memref.isWhole_whole _).wordExact ⟨Or.inl rfl, trivial⟩)
    Prog.lift (.waitDma2 cc0_scratch4.sem xArr oArr (Memref.isWhole_whole _).wordExact (Memref.isWhole_whole _).wordExact)
    pure ⟨⟩
  else do
    pure ⟨⟩
  if h : k0_cond2 d0 v7 = 1#1 then do
    exchange d0 v7 hw h
  else do
    pure ⟨⟩
  pure ⟨⟩

set_option maxRecDepth 65536 in
set_option maxHeartbeats 4000000 in
/-- The printed body is the four loops over the chunks. -/
theorem body_eq (arg1 : Memref sig .tc .smem S2 .i32) (h1 : arg1.IsWhole) :
    cc0_body (F := F) xArr (Memref.isWhole_whole _) arg1 h1 oArr (Memref.isWhole_whole _)
      cc0_scratch0 cc0_scratch1 cc0_scratch2 cc0_scratch3 cc0_scratch4 = loopBody arg1 := by
  chain_rfl

end Cert.KernelIdeal.Kern

end
-- ==== Proof.Sched.lean ====
module

public import proofs.«01_k».proof.Proof.Loop
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## Ghost state -/

/-- Round counters of the exchange's own cells; a barrier cell's two payers are told apart by a `Bool`. -/
abbrev UB : Type := URounds (GSem nD τ sig) Bool
/-- The pipeline's round counters beside them. -/
abbrev UU : Type := UR sig nD τ × UB

local notation "𝕄" => MT nD τ sig Unit (Elt F) ℕ UU ℕ

/-- Where the pipeline's counters live. -/
abbrev EP : Emb (UR sig nD τ) (MT nD τ sig Unit (Elt F) ℕ UU ℕ) := embL
/-- Where the exchange's counters live. -/
abbrev ER : Emb UB (MT nD τ sig Unit (Elt F) ℕ UU ℕ) := embR

/-! ## The mesh -/

set_option backward.proofsInPublic true in
/-- The device across the first mesh axis. -/
def px (c : Dev nD) : Dev nD := ⟨(c.val + 2) % 4, Nat.mod_lt _ (by decide)⟩
set_option backward.proofsInPublic true in
/-- The device across the second mesh axis. -/
def py (c : Dev nD) : Dev nD := ⟨(2 * (c.val / 2) + 1 - c.val % 2) % 4, Nat.mod_lt _ (by decide)⟩

/-- Crossing the first axis twice leads back. -/
theorem px_px (c : Dev nD) : px (px c) = c := by revert c; decide
/-- Crossing the second axis twice leads back. -/
theorem py_py (c : Dev nD) : py (py c) = c := by revert c; decide
/-- The two neighbours differ. -/
theorem px_ne_py (c : Dev nD) : px c ≠ py c := by revert c; decide
/-- A device and the one across the first axis move the same half of their blocks. -/
theorem px_half (c : Dev nD) : (px c).val % 2 = c.val % 2 := by revert c; decide
/-- A device and the one across the second axis move different halves. -/
theorem py_half (c : Dev nD) : (py c).val % 2 = 1 - c.val % 2 := by revert c; decide

/-- Crossing the first axis, as a bijection. -/
def crossX : Dev nD ≃ Dev nD := ⟨px, px, px_px, px_px⟩
/-- Crossing the second axis, as a bijection. -/
def crossY : Dev nD ≃ Dev nD := ⟨py, py, py_py, py_py⟩

/-- The printed target of the first signal is the device across the first axis. -/
theorem dev1_px (c : Dev nD) : (⟨k0_dev1 c, Gen.k0_dev1_lt c⟩ : Dev nD) = px c := by revert c; decide +kernel
/-- The printed target of the second signal is the device across the second axis. -/
theorem dev2_py (c : Dev nD) : (⟨k0_dev2 c, Gen.k0_dev2_lt c⟩ : Dev nD) = py c := by revert c; decide +kernel
/-- The printed target of a chunk passed on is the device across the second axis. -/
theorem dev35_py (c : Dev nD) : (⟨k0_dev35 c, Gen.k0_dev35_lt c⟩ : Dev nD) = py c := by revert c; decide +kernel

/-! ## The chunks of a block -/

/-- The positions of a block. -/
abbrev Pos : Type := S1x1024x1024.Idx

/-- Chunk `i` of the half of a block that device `c` moves along the first axis: sixteen rows. -/
def mineSet (c : Dev nD) (i : Fin 32) : Finset Pos :=
  Finset.univ.filter fun j => (j 1).val / 16 = 32 * (c.val % 2) + i.val
/-- Chunk `i` of the other half. -/
def theirSet (c : Dev nD) (i : Fin 32) : Finset Pos :=
  Finset.univ.filter fun j => (j 1).val / 16 = 32 * (1 - c.val % 2) + i.val

/-- The chunks that a device moves are those that the device across the first axis moves. -/
theorem mineSet_px (c : Dev nD) (i : Fin 32) : mineSet (px c) i = mineSet c i := by
  unfold mineSet; rw [px_half]
/-- The chunks that the device across the second axis moves are those of the other half. -/
theorem mineSet_py (c : Dev nD) (i : Fin 32) : mineSet (py c) i = theirSet c i := by
  unfold mineSet theirSet; rw [py_half]
/-- The other half of the device across the second axis is the half that the device moves. -/
theorem theirSet_py (c : Dev nD) (i : Fin 32) : theirSet (py c) i = mineSet c i := by
  rw [← mineSet_py, py_py]

/-- A box of sixteen full rows is the set of positions whose row lies in it. -/
theorem rows_set (off : Fin 3 → ℕ) (inb : ∀ a, off a + S1x16x1024.size a ≤ S1x1024x1024.size a) (h n : ℕ)
    (ho : off = ![0, 512 * h + 16 * n, 0]) :
    (Rect.unit (s := S1x1024x1024) off S1x16x1024.size inb).set
      = Finset.univ.filter fun j : Pos => (j 1).val / 16 = 32 * h + n := by
  subst ho
  ext j
  rw [Rect.mem_set_unit, Finset.mem_filter]
  have h0 : (j 0).val < 1 := (j 0).isLt
  have h2 : (j 2).val < 1024 := (j 2).isLt
  constructor
  · intro hj
    have h1 := hj 1
    refine ⟨Finset.mem_univ _, ?_⟩
    have ha : 512 * h + 16 * n ≤ (j 1).val := h1.1
    have hb : (j 1).val < 512 * h + 16 * n + 16 := h1.2
    omega
  · rintro ⟨-, hj⟩ a
    fin_cases a
    · exact ⟨Nat.zero_le _, by show (j 0).val < 0 + 1; omega⟩
    · exact ⟨by show 512 * h + 16 * n ≤ (j 1).val; omega, by show (j 1).val < 512 * h + 16 * n + 16; omega⟩
    · exact ⟨Nat.zero_le _, by show (j 2).val < 0 + 1024; omega⟩

/-- Where chunk `r` of the other half begins. -/
theorem off3_eq : ∀ d0 : Dev nD, ∀ r : Fin 32,
    k0_off3 d0 (BitVec.ofNat 32 (16 * r.val)) = ![0, 512 * (1 - d0.val % 2) + 16 * r.val, 0] := by decide +kernel

/-- The positions of a chunk of the input to send. -/
theorem mine_x_set (c : Dev nD) (i : Fin 32) : (mine xArr c i).view.set = mineSet c i :=
  (View.set_slice_whole main_arg0 _).trans (rows_set _ _ _ _ (Gen.k0_off2_eq c i))
/-- The positions of the chunk of the output that it lands in. -/
theorem mine_o_set (c : Dev nD) (i : Fin 32) : (mine oArr c i).view.set = mineSet c i :=
  (View.set_slice_whole main_v1 _).trans (rows_set _ _ _ _ (Gen.k0_off2_eq c i))
/-- The positions of a chunk of the other half of the output. -/
theorem theirs_o_set (c : Dev nD) (i : Fin 32) : (theirs oArr c i).view.set = theirSet c i :=
  (View.set_slice_whole main_v1 _).trans (rows_set _ _ _ _ (off3_eq c i))

/-- A whole block is the chunks of its two halves. -/
def part (c : Dev nD) (bi : Bool × Fin 32) : Finset Pos := if bi.1 then theirSet c bi.2 else mineSet c bi.2

/-- Which positions are in a chunk. -/
theorem part_mem (c : Dev nD) (bi : Bool × Fin 32) (j : Pos) :
    j ∈ part c bi ↔ (j 1).val / 16 = 32 * (if bi.1 then 1 - c.val % 2 else c.val % 2) + bi.2.val := by
  unfold part mineSet theirSet
  rcases bi with ⟨b, i⟩
  cases b <;> simp

/-- Different chunks share no position. -/
theorem part_disjoint (c : Dev nD) (a b : Bool × Fin 32) (h : a ≠ b) : Disjoint (part c a) (part c b) := by
  rw [Finset.disjoint_left]
  intro j ha hb
  rw [part_mem] at ha hb
  apply h
  rcases a with ⟨a, i⟩; rcases b with ⟨b, k⟩
  have hi := i.isLt; have hk := k.isLt
  cases a <;> cases b <;> simp only [if_true, if_false, Bool.false_eq_true] at ha hb <;>
    first
    | (have : i = k := Fin.ext (by omega)); subst this; rfl
    | exfalso; omega

/-- The chunks together are the block. -/
theorem part_cover (c : Dev nD) : Finset.univ.biUnion (part c) = (Finset.univ : Finset Pos) := by
  ext j
  simp only [Finset.mem_biUnion, Finset.mem_univ, true_and, iff_true]
  have hj : (j 1).val < 1024 := (j 1).isLt
  by_cases h : (j 1).val / 16 / 32 = c.val % 2
  · exact ⟨(false, ⟨(j 1).val / 16 % 32, Nat.mod_lt _ (by decide)⟩), by
      rw [part_mem]; show (j 1).val / 16 = 32 * (c.val % 2) + (j 1).val / 16 % 32; omega⟩
  · exact ⟨(true, ⟨(j 1).val / 16 % 32, Nat.mod_lt _ (by decide)⟩), by
      rw [part_mem]; show (j 1).val / 16 = 32 * (1 - c.val % 2) + (j 1).val / 16 % 32; omega⟩

/-! ## Cells -/

/-- The runtime's barrier semaphore. -/
abbrev barS : Sem sig := (SemArray.scalar (sig.barrier 0 rfl) : Sems sig S_).sem
/-- The semaphore of the copy a device makes in place. -/
abbrev locS : DmaSem sig := cc0_scratch4.sem

set_option backward.proofsInPublic true in
/-- The four arrays of thirty-two transfer semaphores: `k = 0` the sends along the first axis, `1` along the second,
    `2` the arrivals along the first axis, `3` along the second. -/
def xsem (k : Fin 4) (i : Fin 32) : DmaSem sig :=
  ⟨1 + 32 * k.val + i.val, by have := k.isLt; have := i.isLt; show _ < 130; omega⟩

/-- The semaphore of a send along the first axis, by its number. -/
theorem sem0 (i : Fin 32) : semAt cc0_scratch0 i = xsem 0 i := by revert i; decide +kernel
/-- The semaphore of a send along the second axis. -/
theorem sem1 (i : Fin 32) : semAt cc0_scratch1 i = xsem 1 i := by revert i; decide +kernel
/-- The semaphore of an arrival along the first axis. -/
theorem sem2 (i : Fin 32) : semAt cc0_scratch2 i = xsem 2 i := by revert i; decide +kernel
/-- The semaphore of an arrival along the second axis. -/
theorem sem3 (i : Fin 32) : semAt cc0_scratch3 i = xsem 3 i := by revert i; decide +kernel

/-- The barrier's cell of device `c`. -/
abbrev barCell (c : Dev nD) : GSem nD τ sig := ((c : Thread nD τ), .reg barS)
/-- The cell of the copy in place of device `c`. -/
abbrev locCell (c : Dev nD) : GSem nD τ sig := ((c : Thread nD τ), .dma locS)
/-- The cell of device `c` for chunk `i` in array `k`. -/
abbrev xCell (c : Dev nD) (k : Fin 4) (i : Fin 32) : GSem nD τ sig := ((c : Thread nD τ), .dma (xsem k i))

/-- The credit of one chunk. -/
abbrev N : ℕ := (mine oArr 0 0).view.dmaCredit
/-- The credit of a whole block. -/
abbrev NB : ℕ := oArr.view.dmaCredit
/-- The credit of a chunk is positive. -/
theorem N_pos : 0 < N := View.dmaCredit_pos _ (by decide)
/-- The credit of a block is positive. -/
theorem NB_pos : 0 < NB := View.dmaCredit_pos _ (by decide)

/-- Which group a transfer semaphore is in: 0 the table's staging, 1 to 4 the four arrays, 5 the in-place copy. -/
def lane (s : DmaSem sig) : ℕ := (s.val + 31) / 32
set_option backward.proofsInPublic true in
/-- Which chunk it is of. -/
def chunkOf (s : DmaSem sig) : Fin 32 := ⟨(s.val - 1) % 32, Nat.mod_lt _ (by decide)⟩

/-- The group of a semaphore of the four arrays. -/
theorem lane_xsem (k : Fin 4) (i : Fin 32) : lane (xsem k i) = k.val + 1 := by
  have := i.isLt; show (1 + 32 * k.val + i.val + 31) / 32 = _; omega
/-- The chunk of a semaphore of the four arrays. -/
theorem chunkOf_xsem (k : Fin 4) (i : Fin 32) : chunkOf (xsem k i) = i := by
  have := i.isLt; apply Fin.ext; show (1 + 32 * k.val + i.val - 1) % 32 = _; omega
/-- The group of the semaphore of the copy in place. -/
theorem lane_loc : lane locS = 5 := by decide +kernel

/-- Array and chunk are read back off the semaphore. -/
theorem xsem_inj {k k' : Fin 4} {i i' : Fin 32} (h : xsem k i = xsem k' i') : k = k' ∧ i = i' := by
  have hk := congrArg lane h; have hi := congrArg chunkOf h
  rw [lane_xsem, lane_xsem] at hk; rw [chunkOf_xsem, chunkOf_xsem] at hi
  exact ⟨Fin.ext (by omega), hi⟩

/-! ## Contents -/

variable (m : (ℓ : Loc nD τ sig) → Buf (Elt F) ℓ)

/-- Device `c`'s block of the input. -/
abbrev X (c : Dev nD) : Pos → Elt F .f32 := m ((c : Thread nD τ).loc main_arg0)

/-- A chunk of the output of device `c`, holding there what the block `f` does. -/
def oPts (c : Dev nD) (S : Finset Pos) (f : Pos → Elt F .f32) : sProp 𝕄 :=
  ((c : Thread nD τ).loc main_v1) ↦[S]{fullShare} f
/-- A chunk of the input of device `c`. -/
def xPts (c : Dev nD) (S : Finset Pos) (f : Pos → Elt F .f32) : sProp 𝕄 :=
  ((c : Thread nD τ).loc main_arg0) ↦[S]{fullShare} f

omit [FloatOps F] in
instance oPts_storable (c : Dev nD) (S) (f : Pos → Elt F .f32) : BI.Storable (upEmb : UEmb _ 𝕄) (oPts c S f) := by unfold oPts; infer_instance
omit [FloatOps F] in
instance xPts_storable (c : Dev nD) (S) (f : Pos → Elt F .f32) : BI.Storable (upEmb : UEmb _ 𝕄) (xPts c S f) := by unfold xPts; infer_instance

/-! ## The schedule -/

/-- What device `p`'s barrier signal hands device `d`: the chunks of `p`'s output that `d` writes. -/
def lend (d p : Dev nD) : sProp 𝕄 := bigSep Finset.univ fun i : Fin 32 => iprop(∃ f, oPts p (mineSet d i) f)

/-- What a completed transfer hands the device whose semaphore it raises. -/
def pay (c : Dev nD) (n : ℕ) (i : Fin 32) : sProp 𝕄 :=
  if n = 1 then xPts c (mineSet c i) (X m c)
  else if n = 2 then oPts c (mineSet c i) (X m (px c))
  else if n = 3 then oPts c (mineSet c i) (X m (px c))
  else if n = 4 then oPts c (theirSet c i) (X m (px (py c)))
  else if n = 5 then iprop(oPts c Finset.univ (X m c) ∗ xPts c Finset.univ (X m c))
  else iprop(emp)

omit [FloatOps F] in
instance lend_storable (d p : Dev nD) : BI.Storable (upEmb : UEmb _ 𝕄) (lend (F := F) d p) := by unfold lend; infer_instance
omit [FloatOps F] in
instance pay_storable (c : Dev nD) (n : ℕ) (i : Fin 32) : BI.Storable (upEmb : UEmb _ 𝕄) (pay m c n i) := by
  unfold pay; (repeat' split) <;> infer_instance

variable (sw : Bool)

/-- Whether a transfer semaphore of the group is used: the four arrays when the blocks are exchanged, the in-place
    semaphore when they are not. -/
def used (n : ℕ) : Prop := if sw then 1 ≤ n ∧ n ≤ 4 else n = 5
instance used_dec (n : ℕ) : Decidable (used sw n) := by unfold used; infer_instance

/-- The duties of a semaphore. -/
def dutiesOf : SemLoc sig → Finset Bool
  | .reg _ => Finset.univ
  | .dma s => if used sw (lane s) then {false} else ∅
/-- The units of a duty. -/
def amountOf' : SemLoc sig → ℕ
  | .reg _ => 1
  | .dma s => if lane s = 5 then NB else N
/-- What a duty hands over. -/
def payOf (c : Dev nD) : SemLoc sig → Bool → sProp 𝕄
  | .reg _, d => if sw then (if d then lend c (py c) else lend c (px c)) else iprop(emp)
  | .dma s, _ => pay m c (lane s) (chunkOf s)

omit [FloatOps F] in
instance payOf_storable (c : Dev nD) (s : SemLoc sig) (d : Bool) : BI.Storable (upEmb : UEmb _ 𝕄) (payOf m sw c s d) := by
  cases s <;> unfold payOf <;> (repeat' split) <;> infer_instance

/-- One round on every cell: a barrier cell is raised by both neighbours, a used transfer cell by its transfer. -/
def rd : Rounds.Schedule (GSem nD τ sig) Bool 𝕄 where
  duties g r := if r = 0 ∧ g.1.2 = .tc then dutiesOf sw g.2 else ∅
  unitless _ := False
  amount g _ _ := amountOf' g.2
  payload g _ d := payOf m sw g.1.1 g.2 d
  amount_pos g _ _ _ := by
    rcases g with ⟨_, s | s⟩
    · exact Nat.one_pos
    · show 0 < (if lane s = 5 then NB else N)
      split
      · exact NB_pos
      · exact N_pos

instance rd_payload_storable (g : GSem nD τ sig) (r : ℕ) (d : Bool) :
    BI.Storable (upEmb : UEmb _ 𝕄) ((rd (F := F) m sw).payload g r d) := payOf_storable m sw g.1.1 g.2 d

section Facts
variable (c : Dev nD)

omit [FloatOps F] in
/-- No cell has a second round. -/
theorem duties_later (g : GSem nD τ sig) : ∀ r, 1 ≤ r → (rd (F := F) m sw).duties g r = ∅ :=
  fun r hr => if_neg fun h => by omega
omit [FloatOps F] in
/-- A transfer cell that this case does not use has no duties. -/
theorem duties_unused (s : DmaSem sig) (h : ¬ used sw (lane s)) : ∀ r, 0 ≤ r → (rd (F := F) m sw).duties ((c : Thread nD τ), .dma s) r = ∅ := by
  intro r _
  show (if _ then (if used sw (lane s) then {false} else ∅) else ∅) = ∅
  rw [if_neg h, ite_self]
omit [FloatOps F] in
/-- The barrier's round has two duties. -/
theorem duties_bar : (rd (F := F) m sw).duties (barCell c) 0 = Finset.univ := by dsimp only [rd]; exact if_pos ⟨rfl, rfl⟩
omit [FloatOps F] in
/-- The round of a used transfer cell has one duty. -/
theorem duties_dma (s : DmaSem sig) (h : used sw (lane s)) : (rd (F := F) m sw).duties ((c : Thread nD τ), .dma s) 0 = {false} := by
  dsimp only [rd]; rw [if_pos ⟨rfl, rfl⟩]; exact if_pos h
omit [FloatOps F] in
/-- The barrier's round expects two units. -/
theorem expect_bar : (rd (F := F) m sw).expect (barCell c) 0 = 2 := by
  unfold Schedule.expect Schedule.amountOf
  rw [duties_bar]
  rfl
omit [FloatOps F] in
/-- The round of a used transfer cell expects the credit of what lands. -/
theorem expect_dma (s : DmaSem sig) (h : used sw (lane s)) :
    (rd (F := F) m sw).expect ((c : Thread nD τ), .dma s) 0 = if lane s = 5 then NB else N := by
  unfold Schedule.expect Schedule.amountOf
  rw [duties_dma m sw c s h, Finset.sum_singleton]
  rfl
omit [FloatOps F] in
/-- What the wait on a used transfer cell hands over. -/
theorem rest_dma (s : DmaSem sig) (h : used sw (lane s)) :
    bigSep ((rd (F := F) m sw).duties ((c : Thread nD τ), .dma s) 0 \ ∅) (fun d => (rd (F := F) m sw).payload ((c : Thread nD τ), .dma s) 0 d)
      = pay m c (lane s) (chunkOf s) := by
  rw [Finset.sdiff_empty, duties_dma m sw c s h, bigSep_singleton]
  rfl
omit [FloatOps F] in
/-- What the barrier's wait hands over: in an exchange, both neighbours' loans. -/
theorem rest_bar :
    bigSep ((rd (F := F) m sw).duties (barCell c) 0 \ ∅) (fun d => (rd (F := F) m sw).payload (barCell c) 0 d)
      = iprop((if sw then lend c (px c) else iprop(emp)) ∗ (if sw then lend c (py c) else iprop(emp))) := by
  rw [Finset.sdiff_empty, duties_bar, bigSep_univ_eq_bigSepL [false, true] (by decide) (by decide), bigSepL_cons_cons, bigSepL_singleton]
  cases sw <;> rfl

end Facts

/-- An exchange uses the cells of the four arrays. -/
theorem used_xsem (k : Fin 4) (i : Fin 32) : used true (lane (xsem k i)) := by
  rw [lane_xsem]; have := k.isLt; show 1 ≤ _ ∧ _ ≤ 4; omega
/-- A copy in place does not use the cells of the four arrays. -/
theorem unused_xsem (k : Fin 4) (i : Fin 32) : ¬ used false (lane (xsem k i)) := by
  rw [lane_xsem]; have := k.isLt; show ¬ (_ = 5); omega
/-- A copy in place uses its own cell. -/
theorem used_loc : used false (lane locS) := lane_loc
/-- An exchange does not use the cell of the copy in place. -/
theorem unused_loc : ¬ used true (lane locS) := by rw [lane_loc]; show ¬ (1 ≤ 5 ∧ 5 ≤ 4); omega

end Cert.KernelIdeal.Kern

end
-- ==== Proof.Steps.lean ====
module

public import proofs.«01_k».proof.Proof.Sched

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- No variants: no loop of the kernel needs one. -/
abbrev 𝒱₀ : Variants := Variants.none

/-! ## Debts and levels -/

/-- Every cell of a TensorCore is waited on at the one index. -/
def L (g : GSem nD τ sig) : Finset Unit := if g.1.2 = .tc then {()} else ∅
/-- The order in which cells are waited on: the barrier, the arrivals along the first axis, those along the second;
    everything else first. -/
def lv (g : GSem nD τ sig) (_ : Unit) : ℕ :=
  match g.2 with
  | .reg _ => 1
  | .dma s => if lane s = 3 then 2 else if lane s = 4 then 3 else 0

/-- No other processor is waited for. -/
theorem L_of_ne (g : GSem nD τ sig) (h : g.1.2 ≠ .tc) : L g = ∅ := if_neg h

/-- Every debt in `O` is of a cell above level `n`. -/
def Above (n : ℕ) (O : CellTallies nD τ sig Unit) : Prop := ∀ g u, 0 < O g u → g.1.2 = .tc ∧ n < lv g u

/-- No debt is above every level. -/
theorem above_zero (n : ℕ) : Above n 0 := fun g u h => absurd h (Nat.lt_irrefl 0)

/-- Debts above a level add to debts above it. -/
theorem above_add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0

/-- One debt, to a cell above a level, is above it. -/
theorem above_tally {n : ℕ} (g : GSem nD τ sig) (k : ℕ) (ht : g.1.2 = .tc) (hn : n < lv g ()) :
    Above n (tallyAt g () k) := by
  intro g' u hg
  rw [tallyAt_apply] at hg
  by_cases h : g' = g ∧ u = ()
  · rw [h.1]; exact ⟨ht, hn⟩
  · rw [if_neg h] at hg; exact absurd hg (Nat.lt_irrefl 0)

omit [FloatOps F] in
/-- A wait is allowed while every debt is of a later cell. -/
theorem mayWait_of (c : Dev nD) (sm : SemLoc sig) (O : CellTallies nD τ sig Unit)
    (h : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp]; exact Finset.mem_singleton_self _)
    (fun g u hg => by unfold L; rw [if_pos (h g u hg).1]; exact Finset.mem_singleton_self _)
    (fun p hp => by rw [Finset.mem_singleton.mp hp])
    (fun g u hg => (h g u hg).2)

/-- The credit of one chunk to each of the cells of array `k` at device `d` that a list names, on top of `base`. -/
def debt (base : CellTallies nD τ sig Unit) (d : Dev nD) (k : Fin 4) (l : List (Fin 32)) : CellTallies nD τ sig Unit :=
  l.foldr (fun i r => r + tallyAt (xCell d k i) () N) base

/-- The debt of a list of chunks, to cells above a level, is above it. -/
theorem above_debt {n : ℕ} {base : CellTallies nD τ sig Unit} (hb : Above n base) (d : Dev nD) (k : Fin 4)
    (hn : ∀ i, n < lv (xCell d k i) ()) (l : List (Fin 32)) : Above n (debt base d k l) := by
  induction l with
  | nil => exact hb
  | cons i l ih => exact above_add ih (above_tally _ _ rfl (hn i))

/-- The levels of the four arrays: the arrivals along the first axis below those along the second. -/
theorem lv_x (d : Dev nD) (k : Fin 4) (i : Fin 32) : lv (xCell d k i) () = if k.val = 2 then 2 else if k.val = 3 then 3 else 0 := by
  show (if lane (xsem k i) = 3 then 2 else if lane (xsem k i) = 4 then 3 else 0) = _
  rw [lane_xsem]; simp only [Nat.reduceEqDiff]

/-! ## Lists of resources, and loops over them -/

/-- A resource for every index of a list. -/
def sepL (l : List (Fin 32)) (P : Fin 32 → sProp 𝕄) : sProp 𝕄 := l.foldr (fun i r => iprop(P i ∗ r)) iprop(emp)

omit [FloatOps F] in
/-- The same as over the set of a list without repetition. -/
theorem sepL_eq (l : List (Fin 32)) (h : l.Nodup) (P : Fin 32 → sProp 𝕄) : bigSep l.toFinset P = sepL l P := by
  induction l with
  | nil => exact bigSep_empty
  | cons i l ih =>
    rw [List.nodup_cons] at h
    rw [List.toFinset_cons, bigSep_insert (by rw [List.mem_toFinset]; exact h.1), ih h.2]; rfl

omit [FloatOps F] in
/-- Over all chunks. -/
theorem sepL_chunks (P : Fin 32 → sProp 𝕄) : bigSep Finset.univ P = sepL chunks P := by
  rw [← sepL_eq chunks (List.nodup_finRange 32) P, List.toFinset_finRange]

/-- Running a piece of the kernel body on a device. -/
abbrev runs (c : Dev nD) (p : Piece F) (Q : PUnit → sProp 𝕄) : sProp 𝕄 :=
  wp frame (wpE (defs₀ (F := F)) 𝒱₀ (c : Thread nD τ) none) Set.univ p Q

/-- One index of a loop run before the rest of it. -/
theorem each_cons (f : Fin 32 → Piece F) (i : Fin 32) (l : List (Fin 32)) (k : Piece F) :
    (each (i :: l) f >>= fun _ => k) = (f i >>= fun _ => (each l f >>= fun _ => k)) := Prog.bind_assoc _ _ _

/-- A loop turns the resources of its indices one by one, carrying what the remaining list still needs. -/
theorem runs_each (c : Dev nD) (f : Fin 32 → Piece F) (Q : PUnit → sProp 𝕄) (P R : Fin 32 → sProp 𝕄) (J : List (Fin 32) → sProp 𝕄)
    (step : ∀ i l (k : Piece F), iprop((P i ∗ J (i :: l)) ∗ ((R i ∗ J l) -∗ runs c k Q)) ⊢ runs c (f i >>= fun _ => k) Q)
    (k : Piece F) (l : List (Fin 32)) :
    iprop((sepL l P ∗ J l) ∗ ((sepL l R ∗ J []) -∗ runs c k Q)) ⊢ runs c (each l f >>= fun _ => k) Q := by
  induction l generalizing k with
  | nil =>
    show _ ⊢ runs c k Q
    iintro ⟨H, Hk⟩
    iapply Hk; iexact H
  | cons i l ih =>
    rw [each_cons]
    iintro ⟨⟨HP, HJ⟩, Hk⟩
    ihave HP := (Entails.of_eq (show sepL (i :: l) P = iprop(P i ∗ sepL l P) from rfl)) $$ HP
    icases HP with ⟨HPi, HP⟩
    iapply (step i l (each l f >>= fun _ => k))
    isplitl [HPi HJ]
    · isplitl [HPi] <;> iassumption
    iintro ⟨HR, HJ⟩
    iapply (ih k)
    isplitl [HP HJ]
    · isplitl [HP] <;> iassumption
    iintro ⟨HRl, HJ⟩
    iapply Hk
    isplitl [HR HRl]
    · iapply (Entails.of_eq (show iprop(R i ∗ sepL l R) = sepL (i :: l) R from rfl))
      isplitl [HR] <;> iassumption
    iexact HJ

variable (m : (ℓ : Loc nD τ sig) → Buf (Elt F) ℓ) (sw : Bool)

/-! ## What is known of a cell, and the wait for one's own transfer -/

/-- A cell's invariant is in place and its first round is open. -/
def known (g : GSem nD τ sig) : sProp 𝕄 := iprop((∃ κ : ℕ, cellInv ER (rd m sw) κ g) ∗ reached ER g 0)

instance known_persistent (g : GSem nD τ sig) : BI.Persistent (known m sw g) := by unfold known; infer_instance

/-- The units the transfer behind a semaphore raises it by. -/
abbrev unitsOf (s : DmaSem sig) : ℕ := if lane s = 5 then NB else N

/-- What a device holds to wait on its own semaphore `s`: what is known of the cell, the credit, its position. -/
def waits (c : Dev nD) (s : DmaSem sig) : sProp 𝕄 :=
  iprop(known m sw ((c : Thread nD τ), .dma s) ∗ cred (tallyAt ((c : Thread nD τ), .dma s) () (unitsOf s))
    ∗ atPos ER ((c : Thread nD τ), .dma s) 0 ∅ 0)

/-- What the wait leaves: what the transfer handed over, the counter at zero. -/
def waited (c : Dev nD) (s : DmaSem sig) : sProp 𝕄 :=
  iprop(pay m c (lane s) (chunkOf s) ∗ semVal ((c : Thread nD τ), .dma s) 0)

/-- A device waits for its transfer and closes the cell. -/
theorem wait_own (c : Dev nD) (s : DmaSem sig) (hs : used sw (lane s)) {sp sp' : Space} {sh sh' : Shape} {e e' : EltTy}
    {src : Memref sig .tc sp sh e} {dst : Memref sig .tc sp' sh' e'} {h1 : src.view.WordExact} {h2 : dst.view.WordExact}
    (hd : dst.view.dmaCredit = unitsOf s) (O : CellTallies nD τ sig Unit) (W : Waits sig Unit)
    (hO : Above (lv ((c : Thread nD τ), .dma s) ()) O) (k : PUnit → Piece F) (Q : PUnit → sProp 𝕄) :
    iprop((waits m sw c s ∗ owes (c : Thread nD τ) O W ∗ levAts L lv)
        ∗ ((waited m c s ∗ ∃ W, owes (c : Thread nD τ) O W) -∗ runs c (k ⟨⟩) Q))
      ⊢ runs c (.op (.waitDma2 s src dst h1 h2) k) Q := by
  unfold waits known
  iintro ⟨⟨⟨⟨⟨%κ, #HI⟩, #Hr⟩, Hc, Hat⟩, HO, #Hlev⟩, Hk⟩
  iapply (Rounds.wp_wait_rest_token 𝒱₀ ER (rd m sw) (c : Thread nD τ) none (κ := κ)
      (wpE_waitDma2_eq 𝒱₀ (c : Thread nD τ) none Set.univ) (Set.mem_univ _) () (O := O) (W := W) (R := 0) (m := 0) (T := ∅)
      (by rw [Nat.zero_add, expect_dma m sw c s hs]; exact hd)) $$ [Hc HO Hat]
  · isplitr; · iexact HI
    isplitl [Hc]; · rw [hd]; iexact Hc
    isplitl [HO]; · iexact HO
    isplitr; · iapply (mayWait_of c _ O hO); iexact Hlev
    iexact Hat
  iintro ⟨HO, Hat, -, Hpay⟩
  ihave Hp := (Entails.of_eq (rest_dma m sw c s hs)) $$ Hpay
  imod (Rounds.cell_close ER (rd m sw) (Set.mem_univ κ) (fun h => h) (R := 0 + 1) (duties_later m sw ((c : Thread nD τ), .dma s))) $$ [Hat] with Hz
  · isplitr; · iexact HI
    iexact Hat
  iapply Hk
  unfold waited
  isplitl [Hp Hz]
  · isplitl [Hp] <;> iassumption
  iexists _; iexact HO

/-! ## The transfers -/

omit [FloatOps F] in
/-- Writing a chunk of a block over the same chunk of the output leaves that chunk of the block. -/
theorem written (c : Dev nD) (i : Fin 32) (fd f : Pos → Elt F .f32) (j : Pos) (hj : j ∈ mineSet c i) :
    (mine oArr c i).view.write (Elt F) fd ((mine oArr c i).view.read (Elt F) f) Finset.univ j = f j := by
  rw [← mine_o_set] at hj
  obtain ⟨x, -, rfl⟩ := Finset.mem_map.mp hj
  rw [View.write_emb, if_pos (Finset.mem_univ x)]
  rfl

omit [FloatOps F] in
/-- A duty of the four arrays amounts to the credit of a chunk. -/
theorem amount_x (c : Dev nD) (k : Fin 4) (i : Fin 32) (d : Bool) : (rd (F := F) m sw).amount (xCell c k i) 0 d = N := by
  have := k.isLt
  show (if lane (xsem k i) = 5 then NB else N) = N
  rw [lane_xsem, if_neg (by omega)]
omit [FloatOps F] in
/-- What a duty of the four arrays hands over. -/
theorem payload_x (c : Dev nD) (k : Fin 4) (i : Fin 32) (d : Bool) :
    (rd (F := F) m sw).payload (xCell c k i) 0 d = pay m c (k.val + 1) i := by
  show pay m c (lane (xsem k i)) (chunkOf (xsem k i)) = _
  rw [lane_xsem, chunkOf_xsem]

/-- The credit of a chunk of the output. -/
theorem credit_mine (c : Dev nD) (i : Fin 32) : (mine oArr c i).view.dmaCredit = N := rfl
/-- The credit of a chunk of the other half. -/
theorem credit_theirs (c : Dev nD) (i : Fin 32) : (theirs oArr c i).view.dmaCredit = N := rfl
/-- The credit of a chunk of the input. -/
theorem credit_mine_x (c : Dev nD) (i : Fin 32) : (mine xArr c i).view.dmaCredit = N := rfl
/-- The amount that a landing chunk adds is the credit of a chunk. -/
theorem amount_mine (c : Dev nD) (i : Fin 32) (s) : (mine oArr c i).view.amount (.dma s) = N := rfl

/-- What a device holds to send chunk `i` to `d`: what is known of the two cells, the source, the place it lands in,
    the two duties it performs. -/
def sends (c d : Dev nD) (k k' : Fin 4) (i : Fin 32) (P : sProp 𝕄) : sProp 𝕄 :=
  iprop((known m sw (xCell c k i) ∗ known m sw (xCell d k' i)) ∗ P ∗ (∃ f, oPts d (mineSet c i) f)
    ∗ dutyTok ER (xCell c k i) 0 false ∗ dutyTok ER (xCell d k' i) 0 false)

/-- A transfer to `d` between any two pieces: the source is handed to the sender's cell, the landed piece to the receiver's. -/
theorem send_piece (c d : Dev nD) (s s' : DmaSem sig) (hs : used true (lane s)) (hs' : used true (lane s')) (n : ℕ)
    (ha : (rd (F := F) m true).amount ((c : Thread nD τ), .dma s) 0 false = n) (ha' : (rd (F := F) m true).amount ((d : Thread nD τ), .dma s') 0 false = n)
    {sp sp' : Space} {sh : Shape} {e : EltTy} (src : Memref sig .tc sp sh e) (dst : Memref sig .tc sp' sh e)
    (hn : dst.view.amount (.dma s') = n)
    (fs : Buf (Elt F) (src.view.loc (c : Thread nD τ))) (fd : Buf (Elt F) (dst.view.loc (d : Thread nD τ)))
    (h₁ : (src.view.loc (c : Thread nD τ) ↦[src.view.set]{fullShare} fs) ⊢ pay m c (lane s) (chunkOf s))
    (h₂ : (dst.view.loc (d : Thread nD τ) ↦[dst.view.set]{fullShare} (dst.view.write (Elt F) fd (src.view.read (Elt F) fs) Finset.univ))
      ⊢ pay m d (lane s') (chunkOf s'))
    (O : CellTallies nD τ sig Unit) (W : Waits sig Unit) (hr : τ.routes (c : Thread nD τ) (d : Thread nD τ) = true)
    {hsc : dst.view.ref.isScScratch = false}
    {hsrc : src.view.WordExact} {hdst : dst.view.WordExact} {hsem : DmaTarget.Typed sp (.dma s') (.remote (d : Thread nD τ) dst (.dma s) hsc)}
    (kk : PUnit → Piece F) (Q : PUnit → sProp 𝕄) (κ κ' : ℕ) :
    iprop(cellInv ER (rd m true) κ ((c : Thread nD τ), .dma s) ∗ cellInv ER (rd m true) κ' ((d : Thread nD τ), .dma s')
        ∗ (src.view.loc (c : Thread nD τ) ↦[src.view.set]{fullShare} fs) ∗ (dst.view.loc (d : Thread nD τ) ↦[dst.view.set]{fullShare} fd)
        ∗ owes (c : Thread nD τ) (O + tallyAt ((d : Thread nD τ), .dma s') () n) W
        ∗ dutyTok ER ((c : Thread nD τ), .dma s) 0 false ∗ reached ER ((c : Thread nD τ), .dma s) 0
        ∗ dutyTok ER ((d : Thread nD τ), .dma s') 0 false ∗ reached ER ((d : Thread nD τ), .dma s') 0)
      ⊢ iprop(((cred (tallyAt ((c : Thread nD τ), .dma s) () n) ∗ owes (c : Thread nD τ) O W) -∗ runs c (kk ⟨⟩) Q)
          -∗ runs c (.op (.enqueueDma src (.remote (d : Thread nD τ) dst (.dma s) hsc) (.dma s') hsrc hdst hsem) kk) Q) :=
  Rounds.wp_send_pointsTo 𝒱₀ ER (rd m true) (c : Thread nD τ) none (κ₁ := κ) (κ₂ := κ')
    (r₁ := 0) (r₂ := 0) (d₁ := false) (d₂ := false) (fd := fd)
    (by rw [duties_dma m true c _ hs]; exact Finset.mem_singleton_self _)
    (by rw [duties_dma m true d _ hs']; exact Finset.mem_singleton_self _)
    () () n hn ha ha' O rfl (W := W) h₁ h₂ (hr := hr)

/-- A chunk of a block sent to `d`: the source is handed to the sender's cell, the landed chunk to the receiver's. -/
theorem send_chunk (c d n : Dev nD) (hn : n = d) (k k' : Fin 4) (i : Fin 32) (s s' : DmaSem sig) (hs : s = xsem k i) (hs' : s' = xsem k' i)
    (M : Memref sig .tc .hbm S1x1024x1024 .f32) (fs : Buf (Elt F) ((mine M c i).view.loc (c : Thread nD τ))) (f : Pos → Elt F .f32)
    (hf : ∀ fd : Pos → Elt F .f32, ∀ j ∈ mineSet c i, (mine oArr c i).view.write (Elt F) fd ((mine M c i).view.read (Elt F) fs) Finset.univ j = f j)
    (h₁ : ((mine M c i).view.loc (c : Thread nD τ) ↦[(mine M c i).view.set]{fullShare} fs) ⊢ pay m c (k.val + 1) i)
    (h₂ : oPts d (mineSet c i) f ⊢ pay m d (k'.val + 1) i)
    (hr : τ.routes (c : Thread nD τ) (d : Thread nD τ) = true)
    (O : CellTallies nD τ sig Unit) (W : Waits sig Unit)
    {hsc hsrc hdst hsem} (kk : PUnit → Piece F) (Q : PUnit → sProp 𝕄) :
    iprop((sends m true c d k k' i ((mine M c i).view.loc (c : Thread nD τ) ↦[(mine M c i).view.set]{fullShare} fs)
          ∗ owes (c : Thread nD τ) (O + tallyAt (xCell d k' i) () N) W)
        ∗ ((cred (tallyAt (xCell c k i) () N) ∗ owes (c : Thread nD τ) O W) -∗ runs c (kk ⟨⟩) Q))
      ⊢ runs c (.op (.enqueueDma (mine M c i) (.remote (Dev.tc n : Thread nD τ) (mine oArr c i) (.dma s) hsc) (.dma s') hsrc hdst hsem) kk) Q := by
  subst hn hs hs'
  unfold sends known
  iintro ⟨⟨⟨⟨⟨⟨%κ, #HI⟩, #Hr⟩, ⟨%κ', #HI'⟩, #Hr'⟩, HP, ⟨%fd, Hd⟩, Ht, Ht'⟩, HO⟩, Hk⟩
  have ha : (mine oArr c i).view.amount (.dma (xsem k' i)) = N := amount_mine c i _
  have hp₁ : ((mine M c i).view.loc (c : Thread nD τ) ↦[(mine M c i).view.set]{fullShare} fs) ⊢ pay m c (lane (xsem k i)) (chunkOf (xsem k i)) := by
    rw [lane_xsem, chunkOf_xsem]; exact h₁
  have hp₂ : (((n : Thread nD τ).loc main_v1) ↦[(mine oArr c i).view.set]{fullShare}
      ((mine oArr c i).view.write (Elt F) fd ((mine M c i).view.read (Elt F) fs) Finset.univ)) ⊢ pay m n (lane (xsem k' i)) (chunkOf (xsem k' i)) := by
    rw [lane_xsem, chunkOf_xsem, mine_o_set]
    exact (Entails.of_eq (pointsTo_congr (hf fd))).trans h₂
  have ho : oPts n (mineSet c i) fd = (((n : Thread nD τ).loc main_v1) ↦[(mine oArr c i).view.set]{fullShare} fd) := by
    rw [mine_o_set]; rfl
  iapply (send_piece m c n (xsem k i) (xsem k' i) (used_xsem k i) (used_xsem k' i) N (amount_x m true c k i false) (amount_x m true n k' i false)
    (mine M c i) (mine oArr c i) ha fs fd hp₁ hp₂ O W hr kk Q κ κ') $$ [HP Hd Ht Ht' HO]
  · isplitr; · iexact HI
    isplitr; · iexact HI'
    isplitl [HP]; · iexact HP
    isplitl [Hd]; · iapply (Entails.of_eq ho); iexact Hd
    isplitl [HO]; · iexact HO
    isplitl [Ht]; · iexact Ht
    isplitr; · iexact Hr
    isplitl [Ht']; · iexact Ht'
    iexact Hr'
  iintro ⟨Hc, HO⟩
  iapply Hk
  isplitl [Hc] <;> iassumption

end Cert.KernelIdeal.Kern

end
-- ==== Proof.Phases.lean ====
module

public import proofs.«01_k».proof.Proof.Steps

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## One chunk of each loop -/

/-- Any device reaches any other. -/
theorem route (c d : Dev nD) : τ.routes (c : Thread nD τ) (d : Thread nD τ) = true := by routes

/-- What the device owes, whatever it has recorded of its waits, and the order of the cells. -/
def owing (c : Dev nD) (O : CellTallies nD τ sig Unit) : sProp 𝕄 :=
  iprop((∃ W, owes (c : Thread nD τ) O W) ∗ levAts L lv)

/-- The debt of a list is the debt of its tail and that of its head. -/
theorem debt_cons (base : CellTallies nD τ sig Unit) (d : Dev nD) (k : Fin 4) (i : Fin 32) (l : List (Fin 32)) :
    debt base d k (i :: l) = debt base d k l + tallyAt (xCell d k i) () N := rfl

/-- A chunk of the input sent along the first axis. -/
theorem xSend_step (c : Dev nD) (w : Elt F .i32) (hw : k0_chk1 c w) (h : k0_cond2 c w = 1#1)
    (hx : (⟨k0_dev3 c w, k0_dev3_lt c w hw h⟩ : Dev nD) = px c) (base : CellTallies nD τ sig Unit) (Q : PUnit → sProp 𝕄)
    (i : Fin 32) (l : List (Fin 32)) (k : Piece F) :
    iprop((sends m true c (px c) 0 2 i (xPts c (mineSet c i) (X m c)) ∗ owing c (debt base (px c) 2 (i :: l)))
        ∗ ((cred (tallyAt (xCell c 0 i) () N) ∗ owing c (debt base (px c) 2 l)) -∗ runs c k Q))
      ⊢ runs c (xSend c w hw h i >>= fun _ => k) Q := by
  have hx' : xPts c (mineSet c i) (X m c) = ((mine xArr c i).view.loc (c : Thread nD τ) ↦[(mine xArr c i).view.set]{fullShare} (X m c)) := by
    rw [mine_x_set]; rfl
  unfold owing
  rw [debt_cons]
  iintro ⟨⟨HS, ⟨%W, HO⟩, #Hlev⟩, Hk⟩
  rw [hx']
  iapply (send_chunk m c (px c) _ hx 0 2 i _ _ (sem0 i) (sem2 i) xArr (X m c) (X m c) (fun fd j hj => written c i fd (X m c) j hj)
    (by rw [← hx']; exact BI.Entails.refl _)
    (by show _ ⊢ oPts (px c) (mineSet (px c) i) (X m (px (px c))); rw [mineSet_px, px_px]) (route c (px c)) (debt base (px c) 2 l) W (fun _ => k) Q)
  isplitl [HS HO]
  · isplitl [HS] <;> iassumption
  iintro ⟨Hc, HO⟩
  iapply Hk
  isplitl [Hc]; · iexact Hc
  isplitl [HO]; · iexists _; iexact HO
  iexact Hlev

/-- What waiting on a cell of the four arrays leaves. -/
theorem waited_x (c : Dev nD) (k : Fin 4) (i : Fin 32) :
    waited m c (xsem k i) = iprop(pay m c (k.val + 1) i ∗ semVal (xCell c k i) 0) := by
  unfold waited; rw [lane_xsem, chunkOf_xsem]

/-- The units of a cell of the four arrays are the credit of a chunk. -/
theorem units_x (k : Fin 4) (i : Fin 32) : unitsOf (xsem k i) = N := by
  have := k.isLt
  unfold unitsOf; rw [lane_xsem, if_neg (by omega)]

/-- What a relay still owes lies above the arrivals it waits for. -/
theorem above_relay (c : Dev nD) (i : Fin 32) (l : List (Fin 32)) :
    Above (lv (xCell c 2 i) ()) (debt 0 (py c) 3 l) :=
  above_debt (above_zero _) _ _ (fun i' => by rw [lv_x, lv_x]; exact (by decide : (2 : ℕ) < 3)) l

/-- Everything a relay needs but the chunk itself. -/
def relays (c : Dev nD) (i : Fin 32) : sProp 𝕄 := sends m true c (py c) 1 3 i iprop(emp)

/-- A relay with the chunk that arrived is a send. -/
theorem relays_sends (c : Dev nD) (i : Fin 32) (P : sProp 𝕄) : iprop(relays m c i ∗ P) ⊢ sends m true c (py c) 1 3 i P := by
  unfold relays sends
  iintro ⟨⟨HK, -, H⟩, HP⟩
  isplitl [HK]; · iexact HK
  isplitl [HP] <;> iassumption

/-- A chunk that arrived along the first axis passed on along the second. -/
theorem relay_step (c : Dev nD) (Q : PUnit → sProp 𝕄) (i : Fin 32) (l : List (Fin 32)) (k : Piece F) :
    iprop(((waits m true c (xsem 2 i) ∗ relays m c i) ∗ owing c (debt 0 (py c) 3 (i :: l)))
        ∗ (((semVal (xCell c 2 i) 0 ∗ cred (tallyAt (xCell c 1 i) () N)) ∗ owing c (debt 0 (py c) 3 l)) -∗ runs c k Q))
      ⊢ runs c (relay c i >>= fun _ => k) Q := by
  have ho : oPts c (mineSet c i) (X m (px c))
      = ((mine oArr c i).view.loc (c : Thread nD τ) ↦[(mine oArr c i).view.set]{fullShare} (X m (px c))) := by
    rw [mine_o_set]; rfl
  have hr : (relay c i >>= fun _ => k : Piece F) = .op (.waitDma2 (xsem 2 i) (mine oArr c i) (mine oArr c i) (View.wordExact_bits rfl) (View.wordExact_bits rfl))
      (fun _ => .op (.enqueueDma (mine oArr c i) (.remote (Dev.tc (⟨k0_dev35 c, Gen.k0_dev35_lt c⟩ : Dev nD)) (mine oArr c i)
        (.dma (semAt cc0_scratch1 i))) (.dma (semAt cc0_scratch3 i)) (View.wordExact_bits rfl) (View.wordExact_bits rfl) ⟨⟨rfl, Or.inl rfl⟩, trivial⟩)
        (fun _ => k)) := by rw [← sem2 i]; rfl
  rw [hr]
  unfold owing
  iintro ⟨⟨⟨HW, HS⟩, ⟨%W, HO⟩, #Hlev⟩, Hk⟩
  iapply (wait_own m true c (xsem 2 i) (used_xsem 2 i) ((credit_mine c i).trans (units_x 2 i).symm) _ W
    (above_relay c i _) _ Q)
  isplitl [HW HO]
  · isplitl [HW]; · iexact HW
    isplitl [HO]; · iexact HO
    iexact Hlev
  rw [waited_x]
  iintro ⟨⟨Hp, Hz⟩, %W', HO⟩
  rw [debt_cons]
  ihave Hp := (Entails.of_eq (show pay m c ((2 : Fin 4).val + 1) i = _ from ho)) $$ Hp
  iapply (send_chunk m c (py c) _ (dev35_py c) 1 3 i _ _ (sem1 i) (sem3 i) oArr (X m (px c)) (X m (px c)) (fun fd j hj => written c i fd (X m (px c)) j hj)
    (by rw [← ho]; exact BI.Entails.refl _)
    (by show _ ⊢ oPts (py c) (theirSet (py c) i) (X m (px (py (py c)))); rw [theirSet_py, py_py]) (route c (py c)) (debt 0 (py c) 3 l) W' (fun _ => k) Q)
  isplitl [HS Hp HO]
  · isplitl [HS Hp]
    · iapply (relays_sends m c i); isplitl [HS] <;> iassumption
    iexact HO
  iintro ⟨Hc, HO⟩
  iapply Hk
  isplitl [Hc Hz]
  · isplitl [Hz] <;> iassumption
  isplitl [HO]; · iexists _; iexact HO
  iexact Hlev

/-- The wait for one's own transfer when nothing is owed any more. -/
theorem wait_step (c : Dev nD) (k : Fin 4) (i : Fin 32) (s : DmaSem sig) (hs : s = xsem k i) {sp sp' : Space} {sh sh' : Shape} {e e' : EltTy}
    {src : Memref sig .tc sp sh e} {dst : Memref sig .tc sp' sh' e'} {h1 : src.view.WordExact} {h2 : dst.view.WordExact}
    (hd : dst.view.dmaCredit = N) (Q : PUnit → sProp 𝕄) (kk : Piece F) :
    iprop((waits m true c (xsem k i) ∗ owing c 0) ∗ ((waited m c (xsem k i) ∗ owing c 0) -∗ runs c kk Q))
      ⊢ runs c (.op (.waitDma2 s src dst h1 h2) (fun _ => kk)) Q := by
  subst hs
  unfold owing
  iintro ⟨⟨HW, ⟨%W, HO⟩, #Hlev⟩, Hk⟩
  iapply (wait_own m true c (xsem k i) (used_xsem k i) (hd.trans (units_x k i).symm) 0 W (above_zero _) (fun _ => kk) Q)
  isplitl [HW HO]
  · isplitl [HW]; · iexact HW
    isplitl [HO]; · iexact HO
    iexact Hlev
  iintro ⟨HW, HO⟩
  iapply Hk
  isplitl [HW]; · iexact HW
  isplitl [HO]; · iexact HO
  iexact Hlev

/-- A chunk of the other half waited for. -/
theorem yWait_step (c : Dev nD) (Q : PUnit → sProp 𝕄) (i : Fin 32) (l : List (Fin 32)) (k : Piece F) :
    iprop((waits m true c (xsem 3 i) ∗ owing c 0) ∗ ((waited m c (xsem 3 i) ∗ owing c 0) -∗ runs c k Q))
      ⊢ runs c (yWait c i >>= fun _ => k) Q :=
  wait_step m c 3 i _ (sem3 i) (credit_theirs c i) Q k
/-- A send along the first axis waited for. -/
theorem xDone_step (c : Dev nD) (Q : PUnit → sProp 𝕄) (i : Fin 32) (l : List (Fin 32)) (k : Piece F) :
    iprop((waits m true c (xsem 0 i) ∗ owing c 0) ∗ ((waited m c (xsem 0 i) ∗ owing c 0) -∗ runs c k Q))
      ⊢ runs c (xDone c i >>= fun _ => k) Q :=
  wait_step m c 0 i _ (sem0 i) (credit_mine_x c i) Q k
/-- A relay waited for. -/
theorem yDone_step (c : Dev nD) (Q : PUnit → sProp 𝕄) (i : Fin 32) (l : List (Fin 32)) (k : Piece F) :
    iprop((waits m true c (xsem 1 i) ∗ owing c 0) ∗ ((waited m c (xsem 1 i) ∗ owing c 0) -∗ runs c k Q))
      ⊢ runs c (yDone c i >>= fun _ => k) Q :=
  wait_step m c 1 i _ (sem1 i) (credit_mine c i) Q k

end Cert.KernelIdeal.Kern

end
-- ==== Proof.Exchange.lean ====
module

public import proofs.«01_k».proof.Proof.Phases

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Resources chunk by chunk -/

omit [FloatOps F] in
/-- The resources of a list are those of its head and of its tail. -/
theorem sepL_cons (i : Fin 32) (l : List (Fin 32)) (P : Fin 32 → sProp 𝕄) : sepL (i :: l) P = iprop(P i ∗ sepL l P) := rfl

omit [FloatOps F] in
/-- An entailment at each index is one of the lists. -/
theorem sepL_mono {l : List (Fin 32)} {P R : Fin 32 → sProp 𝕄} (h : ∀ i, P i ⊢ R i) : sepL l P ⊢ sepL l R := by
  induction l with
  | nil => exact BI.Entails.refl _
  | cons i l ih => exact BIClass.sep_mono (h i) ih

omit [FloatOps F] in
/-- Two resources for every index are one. -/
theorem sepL_sep (l : List (Fin 32)) (P R : Fin 32 → sProp 𝕄) :
    iprop(sepL l P ∗ sepL l R) ⊢ sepL l (fun i => iprop(P i ∗ R i)) := by
  induction l with
  | nil =>
    iintro ⟨-, H⟩; iexact H
  | cons i l ih =>
    simp only [sepL_cons]
    iintro ⟨⟨HP, HPl⟩, HR, HRl⟩
    isplitl [HP HR]
    · isplitl [HP] <;> iassumption
    iapply ih
    isplitl [HPl] <;> iassumption

omit [FloatOps F] in
/-- A pair for every index is a pair of lists. -/
theorem sepL_unsep (l : List (Fin 32)) (P R : Fin 32 → sProp 𝕄) :
    sepL l (fun i => iprop(P i ∗ R i)) ⊢ iprop(sepL l P ∗ sepL l R) := by
  induction l with
  | nil =>
    iintro H
    isplitl [H]; · iexact H
    iapply (Entails.of_eq (show (iprop(emp) : sProp 𝕄) = sepL [] R from rfl)); iempintro
  | cons i l ih =>
    simp only [sepL_cons]
    iintro ⟨⟨HP, HR⟩, Hl⟩
    ihave Hl := ih $$ Hl
    icases Hl with ⟨HPl, HRl⟩
    isplitl [HP HPl]
    · isplitl [HP] <;> iassumption
    isplitl [HR] <;> iassumption

omit [FloatOps F] in
/-- Two lists joined index by index. -/
theorem sepL_join {l : List (Fin 32)} {P R S : Fin 32 → sProp 𝕄} (h : ∀ i, iprop(P i ∗ R i) ⊢ S i) :
    iprop(sepL l P ∗ sepL l R) ⊢ sepL l S := (sepL_sep l P R).trans (sepL_mono h)

omit [FloatOps F] in
/-- Equal resources make equal lists. -/
theorem sepL_congr {l : List (Fin 32)} {P R : Fin 32 → sProp 𝕄} (h : ∀ i, P i = R i) : sepL l P = sepL l R := by
  rw [show P = R from funext h]

/-- A resource of a set of positions that splits over the chunks splits into the two halves' chunks. -/
theorem halves (c : Dev nD) (P : Finset Pos → sProp 𝕄) (h : P (Finset.univ.biUnion (part c)) = bigSep Finset.univ fun b => P (part c b)) :
    P Finset.univ = iprop(sepL chunks (fun i => P (mineSet c i)) ∗ sepL chunks (fun i => P (theirSet c i))) := by
  rw [← part_cover c, h, bigSep_univ_prod, bigSep_univ_eq_bigSepL [false, true] (by decide) (by decide), bigSepL_cons_cons, bigSepL_singleton,
    sepL_chunks, sepL_chunks]
  rfl

/-- The output of device `d`, chunk by chunk. -/
theorem o_halves (c d : Dev nD) (f : Pos → Elt F .f32) :
    oPts d Finset.univ f = iprop(sepL chunks (fun i => oPts d (mineSet c i) f) ∗ sepL chunks (fun i => oPts d (theirSet c i) f)) :=
  halves c (fun S => oPts d S f)
    (pointsTo_biUnion (ℓ := (d : Thread nD τ).loc main_v1) Finset.univ (part c) (fun b _ b' _ h => part_disjoint c b b' h))
/-- The input of device `d`, chunk by chunk. -/
theorem x_halves (c d : Dev nD) (f : Pos → Elt F .f32) :
    xPts d Finset.univ f = iprop(sepL chunks (fun i => xPts d (mineSet c i) f) ∗ sepL chunks (fun i => xPts d (theirSet c i) f)) :=
  halves c (fun S => xPts d S f)
    (pointsTo_biUnion (ℓ := (d : Thread nD τ).loc main_arg0) Finset.univ (part c) (fun b _ b' _ h => part_disjoint c b b' h))

/-- What the exchange leaves in the output of device `c`: the half it moved itself from the device across the first
    axis, the other half from the one across both. -/
def swapped (c : Dev nD) : Pos → Elt F .f32 :=
  fun j => if (j 1).val / 512 = c.val % 2 then X m (px c) j else X m (px (py c)) j

/-- A chunk of the device's own half, with what the device across the first axis held, is the exchanged block's. -/
theorem swapped_mine (c : Dev nD) (i : Fin 32) : oPts c (mineSet c i) (X m (px c)) = oPts c (mineSet c i) (swapped m c) := by
  refine pointsTo_congr fun j hj => ?_
  have := i.isLt
  have hj : (j 1).val / 16 = 32 * (c.val % 2) + i.val := (Finset.mem_filter.mp hj).2
  exact (if_pos (by omega)).symm
/-- A chunk of the other half, with what the device across both axes held, is the exchanged block's. -/
theorem swapped_theirs (c : Dev nD) (i : Fin 32) : oPts c (theirSet c i) (X m (px (py c))) = oPts c (theirSet c i) (swapped m c) := by
  refine pointsTo_congr fun j hj => ?_
  have := i.isLt
  have hj : (j 1).val / 16 = 32 * (1 - c.val % 2) + i.val := (Finset.mem_filter.mp hj).2
  exact (if_neg (by omega)).symm

/-! ## The exchange -/

variable (sw : Bool)

/-- A cell of its own a device may wait on or close: what is known of it, its position. -/
def ready (c : Dev nD) (s : DmaSem sig) : sProp 𝕄 :=
  iprop(known m sw ((c : Thread nD τ), .dma s) ∗ atPos ER ((c : Thread nD τ), .dma s) 0 ∅ 0)

/-- A cell and its credit are what a wait takes. -/
theorem waits_of_ready (c : Dev nD) (k : Fin 4) (i : Fin 32) :
    iprop(ready m sw c (xsem k i) ∗ cred (tallyAt (xCell c k i) () N)) ⊢ waits m sw c (xsem k i) := by
  unfold ready waits
  rw [units_x]
  iintro ⟨⟨#HK, Ha⟩, Hc⟩
  isplitr; · iexact HK
  isplitl [Hc] <;> iassumption

/-- The two cells of a transfer of chunk `i` to `d` and the duties it performs. -/
def links (c d : Dev nD) (k k' : Fin 4) (i : Fin 32) : sProp 𝕄 :=
  iprop((known m sw (xCell c k i) ∗ known m sw (xCell d k' i))
    ∗ dutyTok ER (xCell c k i) 0 false ∗ dutyTok ER (xCell d k' i) 0 false)

/-- The cells of a transfer, its source and its place are what a send takes. -/
theorem sends_of_links (c d : Dev nD) (k k' : Fin 4) (i : Fin 32) (P : sProp 𝕄) :
    iprop(links m true c d k k' i ∗ (P ∗ ∃ f, oPts d (mineSet c i) f)) ⊢ sends m true c d k k' i P := by
  unfold links sends
  iintro ⟨⟨HK, Ht⟩, HP, Ho⟩
  isplitl [HK]; · iexact HK
  isplitl [HP]; · iexact HP
  isplitl [Ho] <;> iassumption

/-- The cells of a relay and its place are what a relay takes. -/
theorem relays_of_links (c : Dev nD) (i : Fin 32) :
    iprop(links m true c (py c) 1 3 i ∗ ∃ f, oPts (py c) (mineSet c i) f) ⊢ relays m c i := by
  unfold relays
  iintro ⟨HL, Ho⟩
  iapply (sends_of_links m c (py c) 1 3 i iprop(emp))
  isplitl [HL]; · iexact HL
  isplitr; · iempintro
  iexact Ho

/-- The chunks of a device's own to wait for, each closed at zero. -/
abbrev zeros (c : Dev nD) (k : Fin 4) : sProp 𝕄 := sepL chunks fun i => semVal (xCell c k i) 0

/-- What was waited for, apart from the cells at zero. -/
theorem waited_split (c : Dev nD) (k : Fin 4) :
    sepL chunks (fun i => waited m c (xsem k i)) ⊢ iprop(sepL chunks (fun i => pay m c (k.val + 1) i) ∗ zeros c k) := by
  rw [sepL_congr (waited_x m c k)]
  exact sepL_unsep _ _ _

/-- Every chunk sent, relayed, waited for: the output holds the block exchanged, every cell is at zero. -/
theorem exchange_spec (c : Dev nD) (w : Elt F .i32) (hw : k0_chk1 c w) (h : k0_cond2 c w = 1#1)
    (hx : (⟨k0_dev3 c w, k0_dev3_lt c w hw h⟩ : Dev nD) = px c) (Q : PUnit → sProp 𝕄) (kk : Piece F) :
    iprop((sepL chunks (links m true c (px c) 0 2) ∗ sepL chunks (links m true c (py c) 1 3)
        ∗ (sepL chunks (fun i => ready m true c (xsem 0 i)) ∗ sepL chunks (fun i => ready m true c (xsem 1 i))
          ∗ sepL chunks (fun i => ready m true c (xsem 2 i)) ∗ sepL chunks (fun i => ready m true c (xsem 3 i)))
        ∗ (sepL chunks (fun i => cred (tallyAt (xCell c 2 i) () N)) ∗ sepL chunks (fun i => cred (tallyAt (xCell c 3 i) () N)))
        ∗ (lend c (px c) ∗ lend c (py c)) ∗ xPts c Finset.univ (X m c)
        ∗ owing c (debt (debt 0 (py c) 3 chunks) (px c) 2 chunks))
      ∗ ((((zeros c 0 ∗ zeros c 1 ∗ zeros c 2 ∗ zeros c 3) ∗ oPts c Finset.univ (swapped m c) ∗ xPts c Finset.univ (X m c)) ∗ owing c 0) -∗ runs c kk Q))
      ⊢ runs c (exchange c w hw h >>= fun _ => kk) Q := by
  have he : (exchange c w hw h >>= fun _ => kk : Piece F) = (each chunks (xSend c w hw h) >>= fun _ => each chunks (relay c) >>= fun _ =>
      each chunks (yWait c) >>= fun _ => each chunks (xDone c) >>= fun _ => each chunks (yDone c) >>= fun _ => kk) := by
    unfold exchange
    simp only [Prog.bind_assoc]
  rw [he]
  unfold lend
  simp only [sepL_chunks]
  rw [x_halves c c (X m c), o_halves c c (swapped m c)]
  iintro ⟨⟨HLx, HLy, ⟨HR0, HR1, HR2, HR3⟩, ⟨HC2, HC3⟩, ⟨Hpx, Hpy⟩, ⟨Hxm, Hxt⟩, HO⟩, Hk⟩
  -- all sends
  ihave Hs := (sepL_sep chunks (fun i => xPts c (mineSet c i) (X m c)) _) $$ [Hxm Hpx]
  · isplitl [Hxm] <;> iassumption
  ihave Hs := (sepL_join (fun i => sends_of_links m c (px c) 0 2 i (xPts c (mineSet c i) (X m c)))) $$ [HLx Hs]
  · isplitl [HLx] <;> iassumption
  iapply (runs_each c (xSend c w hw h) Q _ _ (fun l => owing c (debt (debt 0 (py c) 3 chunks) (px c) 2 l))
    (xSend_step m c w hw h hx (debt 0 (py c) 3 chunks) Q))
  isplitl [Hs HO]
  · isplitl [Hs] <;> iassumption
  iintro ⟨HC0, HO⟩
  -- all relays
  ihave Hw := (sepL_join (fun i => waits_of_ready m true c 2 i)) $$ [HR2 HC2]
  · isplitl [HR2] <;> iassumption
  ihave Hr := (sepL_join (S := relays m c) (fun i => relays_of_links m c i)) $$ [HLy Hpy]
  · isplitl [HLy] <;> iassumption
  ihave Hw := (sepL_sep chunks _ _) $$ [Hw Hr]
  · isplitl [Hw] <;> iassumption
  iapply (runs_each c (relay c) Q _ _ (fun l => owing c (debt 0 (py c) 3 l)) (relay_step m c Q))
  isplitl [Hw HO]
  · isplitl [Hw]; · iexact Hw
    iexact HO
  iintro ⟨HD, HO⟩
  ihave HD := (sepL_unsep chunks _ _) $$ HD
  icases HD with ⟨HZ2, HC1⟩
  -- the other half arrives
  ihave Hw := (sepL_join (fun i => waits_of_ready m true c 3 i)) $$ [HR3 HC3]
  · isplitl [HR3] <;> iassumption
  iapply (runs_each c (yWait c) Q _ _ (fun _ => owing c 0) (yWait_step m c Q))
  isplitl [Hw HO]
  · isplitl [Hw]; · iexact Hw
    iexact HO
  iintro ⟨HD, HO⟩
  ihave HD := (waited_split m c 3) $$ HD
  icases HD with ⟨HP3, HZ3⟩
  -- the sends are done with their sources
  ihave Hw := (sepL_join (fun i => waits_of_ready m true c 0 i)) $$ [HR0 HC0]
  · isplitl [HR0] <;> iassumption
  iapply (runs_each c (xDone c) Q _ _ (fun _ => owing c 0) (xDone_step m c Q))
  isplitl [Hw HO]
  · isplitl [Hw]; · iexact Hw
    iexact HO
  iintro ⟨HD, HO⟩
  ihave HD := (waited_split m c 0) $$ HD
  icases HD with ⟨HP0, HZ0⟩
  -- and the relays with theirs
  ihave Hw := (sepL_join (fun i => waits_of_ready m true c 1 i)) $$ [HR1 HC1]
  · isplitl [HR1] <;> iassumption
  iapply (runs_each c (yDone c) Q _ _ (fun _ => owing c 0) (yDone_step m c Q))
  isplitl [Hw HO]
  · isplitl [Hw]; · iexact Hw
    iexact HO
  iintro ⟨HD, HO⟩
  ihave HD := (waited_split m c 1) $$ HD
  icases HD with ⟨HP1, HZ1⟩
  iapply Hk
  isplitr [HO]
  · isplitl [HZ0 HZ1 HZ2 HZ3]
    · isplitl [HZ0]; · iexact HZ0
      isplitl [HZ1]; · iexact HZ1
      isplitl [HZ2] <;> iassumption
    isplitl [HP1 HP3]
    · isplitl [HP1]
      · iapply (Entails.of_eq (sepL_congr (l := chunks) (swapped_mine m c))); iexact HP1
      · iapply (Entails.of_eq (sepL_congr (l := chunks) (swapped_theirs m c))); iexact HP3
    isplitl [HP0]
    · iexact HP0
    iexact Hxt
  iexact HO

end Cert.KernelIdeal.Kern

end
-- ==== Proof.Body.lean ====
module

public import proofs.«01_k».proof.Proof.Exchange

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## One chunk of each loop -/

variable (sw : Bool)

/-! ## The copy in place -/

/-- A copy within the device from one buffer to another: both are handed to its own cell. -/
theorem copy_piece (c : Dev nD) (s : DmaSem sig) (hs : used sw (lane s)) (n : ℕ)
    (ha : (rd (F := F) m sw).amount ((c : Thread nD τ), .dma s) 0 false = n)
    {sp sp' : Space} {sh : Shape} {e : EltTy} (src : Memref sig .tc sp sh e) (dst : Memref sig .tc sp' sh e)
    (hn : dst.view.amount (.dma s) = n)
    (fs : Buf (Elt F) (src.view.loc (c : Thread nD τ))) (fd : Buf (Elt F) (dst.view.loc (c : Thread nD τ)))
    (h : iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ pay m c (lane s) (chunkOf s))
    {hsrc : src.view.WordExact} {hdst : dst.view.WordExact} {hsem : DmaTarget.Typed (nD := nD) (τ := τ) (p := (c : Thread nD τ).2) sp (.dma s) (.here dst)}
    (kk : PUnit → Piece F) (Q : PUnit → sProp 𝕄) (κ : ℕ) :
    iprop(cellInv ER (rd m sw) κ ((c : Thread nD τ), .dma s)
        ∗ (src.view.loc (c : Thread nD τ) ↦[src.view.set]{fullShare} fs) ∗ (dst.view.loc (c : Thread nD τ) ↦[dst.view.set]{fullShare} fd)
        ∗ dutyTok ER ((c : Thread nD τ), .dma s) 0 false ∗ reached ER ((c : Thread nD τ), .dma s) 0)
      ⊢ iprop((cred (tallyAt ((c : Thread nD τ), .dma s) () n) -∗ runs c (kk ⟨⟩) Q)
          -∗ runs c (.op (.enqueueDma src (.here dst) (.dma s) hsrc hdst hsem) kk) Q) :=
  Rounds.wp_copy_pointsTo 𝒱₀ ER (rd m sw) (c : Thread nD τ) none (κ := κ) (r := 0) (d := false) (fd := fd)
    (by rw [duties_dma m sw c _ hs]; exact Finset.mem_singleton_self _) () n hn ha h

/-- The output, whole, as the copy in place names it. -/
theorem whole_o (c : Dev nD) (f : Pos → Elt F .f32) :
    oPts c Finset.univ f = (oArr.view.loc (c : Thread nD τ) ↦[oArr.view.set]{fullShare} f) := by
  rw [show oArr.view.set = (Finset.univ : Finset Pos) from View.set_whole _]; rfl
/-- The input, whole, as the copy in place names it. -/
theorem whole_x (c : Dev nD) (f : Pos → Elt F .f32) :
    xPts c Finset.univ f = (xArr.view.loc (c : Thread nD τ) ↦[xArr.view.set]{fullShare} f) := by
  rw [show xArr.view.set = (Finset.univ : Finset Pos) from View.set_whole _]; rfl

/-- What the copy in place hands over: the output with the input's contents, and the input. -/
theorem pay_loc (c : Dev nD) : pay m c (lane locS) (chunkOf locS) = iprop(oPts c Finset.univ (X m c) ∗ xPts c Finset.univ (X m c)) := by
  rw [lane_loc]; rfl

/-- The units of the copy in place are the credit of a block. -/
theorem units_loc : unitsOf locS = NB := by unfold unitsOf; rw [lane_loc]; rfl

/-- What the copy in place writes is the input's block. -/
theorem copied (c : Dev nD) (fd : Pos → Elt F .f32) :
    (oArr.view.loc (c : Thread nD τ) ↦[oArr.view.set]{fullShare} oArr.view.write (Elt F) fd (xArr.view.read (Elt F) (X m c)) Finset.univ)
      = oPts c Finset.univ (X m c) := by
  rw [whole_o]
  refine pointsTo_congr fun j hj => ?_
  obtain ⟨x, -, rfl⟩ := Finset.mem_map.mp hj
  rw [View.write_emb, if_pos (Finset.mem_univ x)]
  rfl

/-- The block copied in place and waited for. -/
theorem copy_spec (c : Dev nD) {hsrc hdst hsem h1 h2} (Q : PUnit → sProp 𝕄) (kk : Piece F) :
    iprop((ready m false c locS ∗ dutyTok ER (locCell c) 0 false ∗ xPts c Finset.univ (X m c) ∗ (∃ f, oPts c Finset.univ f) ∗ owing c 0)
        ∗ ((semVal (locCell c) 0 ∗ (oPts c Finset.univ (X m c) ∗ xPts c Finset.univ (X m c)) ∗ owing c 0) -∗ runs c kk Q))
      ⊢ runs c (.op (.enqueueDma xArr (.here oArr) (.dma locS) hsrc hdst hsem)
          (fun _ => .op (.waitDma2 locS xArr oArr h1 h2) (fun _ => kk))) Q := by
  have ha : (rd (F := F) m false).amount (locCell c) 0 false = NB := by
    show (if lane locS = 5 then NB else N) = NB
    rw [lane_loc]; rfl
  have hp (fd : Pos → Elt F .f32) : iprop((oArr.view.loc (c : Thread nD τ) ↦[oArr.view.set]{fullShare} oArr.view.write (Elt F) fd (xArr.view.read (Elt F) (X m c)) Finset.univ)
      ∗ (xArr.view.loc (c : Thread nD τ) ↦[xArr.view.set]{fullShare} (X m c))) ⊢ pay m c (lane locS) (chunkOf locS) := by
    rw [copied, pay_loc, ← whole_x]
  unfold ready known owing
  iintro ⟨⟨⟨⟨⟨%κ, #HI⟩, #Hr⟩, Hat⟩, Ht, Hx, ⟨%fd, Ho⟩, ⟨%W, HO⟩, #Hlev⟩, Hk⟩
  iapply (copy_piece m false c locS used_loc NB ha xArr oArr rfl (X m c) fd (hp fd) _ Q κ) $$ [Ht Hx Ho]
  · isplitr; · iexact HI
    isplitl [Hx]; · iapply (Entails.of_eq (whole_x c _)); iexact Hx
    isplitl [Ho]; · iapply (Entails.of_eq (whole_o c _)); iexact Ho
    isplitl [Ht]; · iexact Ht
    iexact Hr
  iintro Hc
  iapply (wait_own m false c locS used_loc units_loc.symm 0 W (above_zero _) (fun _ => kk) Q)
  isplitl [Hc Hat HO]
  · isplitl [Hc Hat]
    · unfold waits known
      rw [units_loc]
      isplitr
      · isplitr
        · iexists κ; iexact HI
        iexact Hr
      isplitl [Hc] <;> iassumption
    isplitl [HO]; · iexact HO
    iexact Hlev
  unfold waited
  rw [pay_loc]
  iintro ⟨⟨Hp, Hz⟩, HO⟩
  iapply Hk
  isplitl [Hz]; · iexact Hz
  isplitl [Hp]; · iexact Hp
  isplitl [HO]; · iexact HO
  iexact Hlev

/-! ## The barrier -/

/-- What a device owes after its two signals: in an exchange, every chunk's credit to the device it goes to. -/
def O₂ (c : Dev nD) : CellTallies nD τ sig Unit := if sw then debt (debt 0 (py c) 3 chunks) (px c) 2 chunks else 0
/-- After the first. -/
def O₁ (c : Dev nD) : CellTallies nD τ sig Unit := O₂ sw c + tallyAt (barCell (py c)) () 1
/-- At the start. -/
def O₀ (c : Dev nD) : CellTallies nD τ sig Unit := O₁ sw c + tallyAt (barCell (px c)) () 1

/-- What is owed after the signals is above the barrier's level. -/
theorem above_O₂ (c : Dev nD) : Above 1 (O₂ sw c) := by
  unfold O₂
  cases sw
  · exact above_zero 1
  · exact above_debt (above_debt (above_zero 1) _ _ (fun i => by rw [lv_x]; exact (by decide : (1 : ℕ) < 3)) _) _ _
      (fun i => by rw [lv_x]; exact (by decide : (1 : ℕ) < 2)) _
/-- Above a level is above each lower one. -/
theorem above_mono {n n' : ℕ} (h : n ≤ n') {O : CellTallies nD τ sig Unit} (hO : Above n' O) : Above n O :=
  fun g u hg => ⟨(hO g u hg).1, lt_of_le_of_lt h (hO g u hg).2⟩
/-- What is owed at the start is above level zero. -/
theorem above_O₀ (c : Dev nD) : Above 0 (O₀ sw c) :=
  above_add (above_add (above_mono (Nat.zero_le 1) (above_O₂ sw c)) (above_tally _ _ rfl Nat.one_pos)) (above_tally _ _ rfl Nat.one_pos)

/-- What the signal across an axis hands over. -/
def lent (d c : Dev nD) : sProp 𝕄 := if sw then lend d c else iprop(emp)

/-- What a device hands over to the barrier across the first axis. -/
theorem bar_px (c : Dev nD) : (rd (F := F) m sw).payload (barCell (px c)) 0 false = lent sw (px c) c := by
  show (if sw then lend (px c) (px (px c)) else iprop(emp)) = _
  rw [px_px]; rfl
/-- What a device hands over to the barrier across the second axis. -/
theorem bar_py (c : Dev nD) : (rd (F := F) m sw).payload (barCell (py c)) 0 true = lent sw (py c) c := by
  show (if sw then lend (py c) (py (py c)) else iprop(emp)) = _
  rw [py_py]; rfl

/-- What stays with the device of its own output. -/
def kept (c : Dev nD) : sProp 𝕄 := if sw then iprop(emp) else iprop(∃ f, oPts c Finset.univ f)

/-- The output lent out in halves, or kept. -/
theorem lend_out (c : Dev nD) : (iprop(∃ f, oPts c Finset.univ f) : sProp 𝕄) ⊢ iprop((lent sw (px c) c ∗ lent sw (py c) c) ∗ kept sw c) := by
  cases sw
  · show _ ⊢ iprop((emp ∗ emp) ∗ ∃ f, oPts c Finset.univ f)
    iintro H
    isplitr [H]
    · isplitl [] <;> iempintro
    iexact H
  · show _ ⊢ iprop((lend (px c) c ∗ lend (py c) c) ∗ emp)
    have h₁ (f : Pos → Elt F .f32) : sepL chunks (fun i => oPts c (mineSet c i) f) ⊢ lend (px c) c := by
      unfold lend; rw [sepL_chunks]
      exact sepL_mono fun i => by rw [mineSet_px]; iintro H; iexists f; iexact H
    have h₂ (f : Pos → Elt F .f32) : sepL chunks (fun i => oPts c (theirSet c i) f) ⊢ lend (py c) c := by
      unfold lend; rw [sepL_chunks]
      exact sepL_mono fun i => by rw [mineSet_py]; iintro H; iexists f; iexact H
    iintro ⟨%f, H⟩
    ihave H := (Entails.of_eq (o_halves c c f)) $$ H
    icases H with ⟨H1, H2⟩
    isplitr []
    · isplitl [H1]
      · iapply (h₁ f); iexact H1
      · iapply (h₂ f); iexact H2
    iempintro

/-- The barrier's cells as a device sees them: its own to wait on, its neighbours' to signal. -/
def gates (c : Dev nD) : sProp 𝕄 :=
  iprop((known m sw (barCell c) ∗ known m sw (barCell (px c)) ∗ known m sw (barCell (py c)))
    ∗ atPos ER (barCell c) 0 ∅ 0 ∗ dutyTok ER (barCell (px c)) 0 false ∗ dutyTok ER (barCell (py c)) 0 true)

/-- Both neighbours signalled, both signals awaited: what they lent has come. -/
theorem barrier_spec (c n n' : Dev nD) (hn : n = px c) (hn' : n' = py c) (Q : PUnit → sProp 𝕄) (kk : Piece F) :
    iprop((gates m sw c ∗ cred (tallyAt (barCell c) () 2) ∗ (∃ f, oPts c Finset.univ f) ∗ owing c (O₀ sw c))
        ∗ ((semVal (barCell c) 0 ∗ (lent sw c (px c) ∗ lent sw c (py c)) ∗ kept sw c ∗ owing c (O₂ sw c)) -∗ runs c kk Q))
      ⊢ runs c (semSignalWord n barS 1#32 >>= fun _ => semSignalWord n' barS 1#32 >>= fun _ => semWaitWord barS 2#32 >>= fun _ => kk) Q := by
  subst hn hn'
  simp only [semSignalWord, semWaitWord, Prog.lift, Prog.bind_op, Prog.bind_ret, Prog.pure_eq_ret]
  unfold gates known owing
  iintro ⟨⟨⟨⟨⟨⟨%κ, #HI⟩, #Hr⟩, ⟨⟨%κx, #HIx⟩, #Hrx⟩, ⟨%κy, #HIy⟩, #Hry⟩, Hat, Htx, Hty⟩, Hc, Ho, ⟨%W, HO⟩, #Hlev⟩, Hk⟩
  ihave Hl := (lend_out sw c) $$ Ho
  icases Hl with ⟨⟨Hlx, Hly⟩, Hkept⟩
  unfold O₀
  iapply (Rounds.wp_signal 𝒱₀ ER (rd m sw) (c : Thread nD τ) none (dst := (px c : Thread nD τ)) (κ := κx)
      (d := false) (by rw [duties_bar]; exact Finset.mem_univ _) (show (1 : ℕ) = (1#32).toNat by decide) () (O₁ sw c) rfl)
    $$ [HO Htx Hlx]
  · isplitr; · iexact HIx
    isplitl [HO]; · iexact HO
    isplitl [Htx]; · iexact Htx
    isplitl [Hlx]; · rw [bar_px]; iexact Hlx
    iexact Hrx
  iintro HO
  unfold O₁
  iapply (Rounds.wp_signal 𝒱₀ ER (rd m sw) (c : Thread nD τ) none (dst := (py c : Thread nD τ)) (κ := κy)
      (d := true) (by rw [duties_bar]; exact Finset.mem_univ _) (show (1 : ℕ) = (1#32).toNat by decide) () (O₂ sw c) rfl)
    $$ [HO Hty Hly]
  · isplitr; · iexact HIy
    isplitl [HO]; · iexact HO
    isplitl [Hty]; · iexact Hty
    isplitl [Hly]; · rw [bar_py]; iexact Hly
    iexact Hry
  iintro HO
  iapply (Rounds.wp_wait_rest_token 𝒱₀ ER (rd m sw) (c : Thread nD τ) none (κ := κ)
      (wpE_semWait_eq 𝒱₀ (c : Thread nD τ) none Set.univ) (Set.mem_univ _) () (O := O₂ sw c) (W := W) (R := 0) (m := 0) (T := ∅)
      (by rw [expect_bar]; decide)) $$ [Hc HO Hat]
  · isplitr; · iexact HI
    isplitl [Hc]; · iexact Hc
    isplitl [HO]; · iexact HO
    isplitr; · iapply (mayWait_of c (SemLoc.reg barS) (O₂ sw c) (above_O₂ sw c)); iexact Hlev
    iexact Hat
  iintro ⟨HO, Hat, -, Hpay⟩
  ihave Hp := (Entails.of_eq (rest_bar m sw c)) $$ Hpay
  imod (Rounds.cell_close ER (rd m sw) (Set.mem_univ κ) (fun h => h) (R := 0 + 1) (duties_later m sw (barCell c))) $$ [Hat] with Hz
  · isplitr; · iexact HI
    iexact Hat
  iapply Hk
  isplitl [Hz]; · iexact Hz
  isplitl [Hp]; · iexact Hp
  isplitl [Hkept]; · iexact Hkept
  isplitl [HO]; · iexists _; iexact HO
  iexact Hlev

end Cert.KernelIdeal.Kern

end
-- ==== Proof.Run.lean ====
module

public import proofs.«01_k».proof.Proof.Body

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## One chunk of each loop -/

variable (sw : Bool) (ρ : Dev nD → PrngReg)

/-! ## The table -/

/-- The memory a run starts from. -/
def s₀ : MemSt nD τ sig (Elt F) := ⟨m, fun _ => 0, ρ⟩

/-- The device's copy of the table, where the kernel reads it. -/
abbrev tM : Memref sig .tc .smem S2 .i32 := Memref.whole cc0_stg0_0
/-- The one word the kernel reads of the table. -/
abbrev rT (c : Dev nD) : Rect S2 := Rect.unit (s := S2) (k0_off1 c) S1.size (Gen.k0_off1_inb c)

/-- A device's place on the first axis is a place in the table. -/
theorem half_lt (c : Dev nD) (a : Fin 1) : c.val / 2 < S2.size a := by
  fin_cases a
  have h : c.val < 4 := c.isLt
  show c.val / 2 < 2
  omega

/-- The word of the table the device reads: the one of its block. -/
def ixOf (c : Dev nD) : S2.Idx := fun _ => ⟨c.val / 2, half_lt c _⟩

/-- The table as staged. -/
def staged (c : Dev nD) : (cc0_stg0_0 : Ref sig .tc).ty.Contents (Elt F) :=
  (win0_0.blk (0 : Fin 1)).view.read (Elt F) ((s₀ m ρ).mem ((c : Thread nD τ).loc main_arg1))

/-- The word the kernel loads from contents `t` of the staging buffer. -/
abbrev wordIn (c : Dev nD) (t : (cc0_stg0_0 : Ref sig .tc).ty.Contents (Elt F)) : Elt F .i32 :=
  ((Memref.whole cc0_stg0_0).access (rT c) : View sig .tc _ _ _).read (Elt F) t (Shape.Idx.first (s := S1) (Gen.numel1_S1.symm ▸ Nat.one_pos))

/-- The entry of the table for the device's block. -/
abbrev entry (c : Dev nD) : Elt F .i32 := (m ((c : Thread nD τ).loc main_arg1) : S2.Idx → Elt F .i32) (ixOf c)

/-- The word loaded is the entry of the table as it was at the launch. -/
theorem word_staged (c : Dev nD) : wordIn c (staged m ρ c) = entry m c := by
  show m ((c : Thread nD τ).loc main_arg1) _ = _
  refine congrArg _ (funext fun a => Fin.ext ?_)
  fin_cases a; fin_cases c <;> rfl

/-- The table names, for every device, the other block (`sw`) or its own. -/
def Names : Prop := ∀ c : Dev nD, entry m c = BitVec.ofNat 32 (if sw then 1 - c.val / 2 else c.val / 2)

variable {m sw}

/-- The table's word meets the printed side condition. -/
theorem chk (h : Names m sw) (c : Dev nD) : k0_chk1 c (entry m c) := by
  rw [h c]; revert c; cases sw <;> decide +kernel
/-- The first branch is taken when the table is in place. -/
theorem here_iff (h : Names m sw) (c : Dev nD) :
    (Scalar.cmpi .ne (Scalar.extui (Scalar.cmpi .eq (entry m c) (Scalar.remsi (Scalar.divsi (Dev.word c) 2#32) 2#32))) 0#32 = 1#1) ↔ sw = false := by
  rw [h c]; revert c; cases sw <;> decide +kernel
/-- The second branch is taken in an exchange. -/
theorem there_iff (h : Names m sw) (c : Dev nD) : k0_cond2 c (entry m c) = 1#1 ↔ sw = true := by
  rw [h c]; revert c; cases sw <;> decide +kernel
/-- The device that the word names in an exchange is the one across the first axis. -/
theorem dev3_px (h : Names m true) (c : Dev nD) (hw : k0_chk1 c (entry m c)) (h2 : k0_cond2 c (entry m c) = 1#1) :
    (⟨k0_dev3 c (entry m c), k0_dev3_lt c _ hw h2⟩ : Dev nD) = px c := by
  apply Fin.ext
  show k0_dev3 c (entry m c) = (px c).val
  rw [h c]; clear hw h2 h; revert c; decide +kernel

variable (m sw)

/-! ## The pipeline's proof data -/

/-- The duties a device performs and the cells it performs them at, beside the barrier's. -/
def gear (c : Dev nD) : sProp 𝕄 :=
  iprop((sepL chunks (links m sw c (px c) 0 2) ∗ sepL chunks (links m sw c (py c) 1 3))
    ∗ (sepL chunks (fun i => ready m sw c (xsem 0 i)) ∗ sepL chunks (fun i => ready m sw c (xsem 1 i))
      ∗ sepL chunks (fun i => ready m sw c (xsem 2 i)) ∗ sepL chunks (fun i => ready m sw c (xsem 3 i)))
    ∗ ready m sw c locS ∗ dutyTok ER (locCell c) 0 false)

/-- The credit of the arrivals a device waits for in an exchange. -/
def arrivals (c : Dev nD) : sProp 𝕄 :=
  if sw then iprop(sepL chunks (fun i => cred (tallyAt (xCell c 2 i) () N)) ∗ sepL chunks (fun i => cred (tallyAt (xCell c 3 i) () N)))
  else iprop(emp)

/-- The arrivals of an exchange. -/
theorem arrivals_true (c : Dev nD) : (arrivals true c : sProp 𝕄)
    = iprop(sepL chunks (fun i => cred (tallyAt (xCell c 2 i) () N)) ∗ sepL chunks (fun i => cred (tallyAt (xCell c 3 i) () N))) := rfl

/-- What a device starts from, beside its buffers. -/
def start (c : Dev nD) : sProp 𝕄 :=
  iprop((gates m sw c ∗ gear m sw c) ∗ (cred (tallyAt (barCell c) () 2) ∗ arrivals sw c) ∗ levAts L lv)

/-- What the kernel leaves in the output of device `c`. -/
def result (c : Dev nD) : Pos → Elt F .f32 := if sw then swapped m c else X m c

/-- What a device holds before the body: its start, its output with any contents, its input. -/
def Φ₀ (c : Dev nD) : sProp 𝕄 := iprop(start m sw c ∗ (∃ f, oPts c Finset.univ f) ∗ xPts c Finset.univ (X m c))
/-- The cells of a device at zero: the four arrays, the one of the copy in place, the barrier. -/
def closed (c : Dev nD) : sProp 𝕄 :=
  iprop(((zeros c 0 ∗ zeros c 1 ∗ zeros c 2 ∗ zeros c 3) ∗ semVal (locCell c) 0) ∗ semVal (barCell c) 0)
/-- What a device holds after the body: its cells at zero, its output at the result, its input unchanged. -/
def Φ₁ (c : Dev nD) : sProp 𝕄 :=
  iprop(closed c ∗ oPts c Finset.univ (result m sw c) ∗ xPts c Finset.univ (X m c))

/-- The data of the pipeline: the table staged, and what is held and owed before and after the body. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => staged m ρ c
  Φ t := match t with
    | ⟨0, _⟩ => Φ₀ m sw c
    | ⟨_ + 1, _⟩ => Φ₁ m sw c
  q _ := fullShare
  owed t := match t with
    | ⟨0, _⟩ => O₀ sw c
    | ⟨_ + 1, _⟩ => 0

/-- A whole buffer owned is its contents held. -/
theorem owns_whole (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-- A staging buffer at given contents. -/
abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

/-- A cell nothing ever raises closes at once. -/
theorem close_unused (c : Dev nD) (s : DmaSem sig) (h : ¬ used sw (lane s)) :
    ready m sw c s ⊢ (|={Set.univ}=> semVal ((c : Thread nD τ), .dma s) 0) := by
  unfold ready known
  iintro ⟨⟨⟨%κ, #HI⟩, -⟩, Hat⟩
  imod (Rounds.cell_close ER (rd m sw) (Set.mem_univ κ) (fun h => h) (R := 0) (duties_unused m sw c s h)) $$ [Hat] with Hz
  · isplitr; · iexact HI
    iexact Hat
  imodintro; iexact Hz

/-- The cells of an array that a copy in place does not use close at zero. -/
theorem close_zeros (c : Dev nD) (k : Fin 4) :
    sepL chunks (fun i => ready m false c (xsem k i)) ⊢ (|={Set.univ}=> zeros c k) := by
  unfold zeros
  rw [← sepL_chunks, ← sepL_chunks]
  exact (bigSep_mono fun i _ => close_unused m false c (xsem k i) (unused_xsem k i)).trans (bigSep_fupd _ _)

/-- What the pipeline hands the body, and what it takes back. -/
def bodyPre (c : Dev nD) : sProp 𝕄 :=
  iprop(Φ₀ m sw c ∗ (dats m sw ρ 0 c).owesAt () Gen.t0_0.castSucc
    ∗ (∃ d, stg c cc0_stg0_0 ((dats m sw ρ 0 c).before (0 : Fin 1) Gen.t0_0 d)))
/-- What the body hands back. -/
def bodyPost (c : Dev nD) : sProp 𝕄 :=
  iprop(Φ₁ m sw c ∗ (dats m sw ρ 0 c).owesAt () Gen.t0_0.succ ∗ stg c cc0_stg0_0 (staged m ρ c))

/-- The body once the word is read and checked. -/
def rest (d : Dev nD) (w : Elt F .i32) (hw : k0_chk1 d w) : Piece F :=
  semSignalWord (⟨k0_dev1 d, Gen.k0_dev1_lt d⟩ : Dev nD) barS 1#32 >>= fun _ =>
  semSignalWord (⟨k0_dev2 d, Gen.k0_dev2_lt d⟩ : Dev nD) barS 1#32 >>= fun _ =>
  semWaitWord barS 2#32 >>= fun _ =>
  if Scalar.cmpi .ne (Scalar.extui (Scalar.cmpi .eq w (Scalar.remsi (Scalar.divsi (Dev.word d) 2#32) 2#32))) 0#32 = 1#1 then
    .op (.enqueueDma xArr (.here oArr) (.dma locS) (Memref.isWhole_whole _).wordExact (Memref.isWhole_whole _).wordExact ⟨Or.inl rfl, trivial⟩) fun _ =>
    .op (.waitDma2 locS xArr oArr (Memref.isWhole_whole _).wordExact (Memref.isWhole_whole _).wordExact) fun _ =>
    if h : k0_cond2 d w = 1#1 then exchange d w hw h >>= fun _ => .ret ⟨⟩ else .ret ⟨⟩
  else if h : k0_cond2 d w = 1#1 then exchange d w hw h >>= fun _ => .ret ⟨⟩ else .ret ⟨⟩

/-- The load of the table's word is allowed. -/
theorem word_loads (arg1 : Memref sig .tc .smem S2 .i32) (d : Dev nD) :
    arg1.view.LoadsAt (Rect.unit (s := S2) (k0_off1 d) S1.size (Gen.k0_off1_inb d)).toLoadRect :=
  View.loadsAt_rect (View.loads_smem_one rfl Gen.numel1_S1)

/-- The body as one chain of operations: the word read, the side condition, the rest. -/
theorem loopBody_eq (arg1 : Memref sig .tc .smem S2 .i32) : (loopBody arg1 : Piece F)
    = .op .deviceId fun d0 =>
        .op (.load arg1 (Rect.unit (s := S2) (k0_off1 d0) S1.size (Gen.k0_off1_inb d0)).toLoadRect (word_loads arg1 d0)) fun x =>
          .op (.assume (k0_chk1 d0 (x (Shape.Idx.first (s := S1) (Gen.numel1_S1.symm ▸ Nat.one_pos)))) (k0_chk1.dec d0 _)) fun hw =>
            rest d0 (x (Shape.Idx.first (s := S1) (Gen.numel1_S1.symm ▸ Nat.one_pos))) hw.down := by
  unfold loopBody rest
  simp only [smemLoad, smemLoadElt, Prog.lift, Prog.bind_op, Prog.bind_ret, Prog.pure_eq_ret, Prog.bind_assoc]

/-- A debt with some record of waits. -/
theorem owing_intro (c : Dev nD) (O : CellTallies nD τ sig Unit) (W : Waits sig Unit) :
    (iprop(owes (c : Thread nD τ) O W ∗ levAts L lv) : sProp 𝕄) ⊢ owing c O := by
  unfold owing
  iintro ⟨HO, HL⟩
  isplitl [HO]; · iexists W; iexact HO
  iexact HL

/-- The rest of the body where every device keeps its block. -/
theorem rest_here (c : Dev nD) (h : Names m false) (hw : k0_chk1 c (entry m c)) (Q : PUnit → sProp 𝕄) :
    iprop((Φ₀ m false c ∗ ∃ W, owes (c : Thread nD τ) (O₀ false c) W) ∗ ((Φ₁ m false c ∗ ∃ W, owes (c : Thread nD τ) 0 W) -∗ Q ⟨⟩))
      ⊢ runs c (rest c (entry m c) hw) Q := by
  unfold rest
  rw [if_pos ((here_iff h c).mpr rfl), dif_neg (fun h' => Bool.noConfusion ((there_iff h c).mp h'))]
  unfold Φ₀ start gear
  iintro ⟨⟨⟨⟨⟨Hg, -, ⟨HR0, HR1, HR2, HR3⟩, HRl, Htl⟩, ⟨Hcb, -⟩, #Hlev⟩, Ho, Hx⟩, ⟨%W, HO⟩⟩, Hk⟩
  iapply (barrier_spec m false c _ _ (dev1_px c) (dev2_py c) Q _)
  isplitl [Hg Hcb Ho HO]
  · isplitl [Hg]; · iexact Hg
    isplitl [Hcb]; · iexact Hcb
    isplitl [Ho]; · iexact Ho
    iapply (owing_intro c _ W)
    isplitl [HO]; · iexact HO
    iexact Hlev
  iintro ⟨HzB, -, Ho, HO⟩
  iapply (copy_spec m c Q _)
  isplitl [HRl Htl Hx Ho HO]
  · isplitl [HRl]; · iexact HRl
    isplitl [Htl]; · iexact Htl
    isplitl [Hx]; · iexact Hx
    isplitl [Ho]; · iapply (Entails.of_eq (show kept false c = iprop(∃ f, oPts c Finset.univ f) from rfl)); iexact Ho
    iexact HO
  iintro ⟨HzL, ⟨Ho, Hx⟩, HO⟩
  imod (close_zeros m c 0) $$ HR0 with Hz0
  imod (close_zeros m c 1) $$ HR1 with Hz1
  imod (close_zeros m c 2) $$ HR2 with Hz2
  imod (close_zeros m c 3) $$ HR3 with Hz3
  unfold owing
  icases HO with ⟨HO, -⟩
  rw [wp_ret]; imodintro
  iapply Hk
  isplitr [HO]
  · unfold Φ₁ closed
    isplitl [HzL HzB Hz0 Hz1 Hz2 Hz3]
    · isplitr [HzB]
      · isplitr [HzL]
        · isplitl [Hz0]; · iexact Hz0
          isplitl [Hz1]; · iexact Hz1
          isplitl [Hz2] <;> iassumption
        iexact HzL
      iexact HzB
    isplitl [Ho]
    · iexact Ho
    iexact Hx
  iexact HO

/-- The rest of the body where the devices exchange their blocks. -/
theorem rest_there (c : Dev nD) (h : Names m true) (hw : k0_chk1 c (entry m c)) (Q : PUnit → sProp 𝕄) :
    iprop((Φ₀ m true c ∗ ∃ W, owes (c : Thread nD τ) (O₀ true c) W) ∗ ((Φ₁ m true c ∗ ∃ W, owes (c : Thread nD τ) 0 W) -∗ Q ⟨⟩))
      ⊢ runs c (rest c (entry m c) hw) Q := by
  have h2 : k0_cond2 c (entry m c) = 1#1 := (there_iff h c).mpr rfl
  unfold rest
  rw [if_neg (fun h' => Bool.noConfusion ((here_iff h c).mp h')), dif_pos h2]
  unfold Φ₀ start gear
  iintro ⟨⟨⟨⟨⟨Hg, ⟨HLx, HLy⟩, HR, HRl, -⟩, ⟨Hcb, Ha⟩, #Hlev⟩, Ho, Hx⟩, ⟨%W, HO⟩⟩, Hk⟩
  iapply (barrier_spec m true c _ _ (dev1_px c) (dev2_py c) Q _)
  isplitl [Hg Hcb Ho HO]
  · isplitl [Hg]; · iexact Hg
    isplitl [Hcb]; · iexact Hcb
    isplitl [Ho]; · iexact Ho
    iapply (owing_intro c _ W)
    isplitl [HO]; · iexact HO
    iexact Hlev
  iintro ⟨HzB, Hl, -, HO⟩
  iapply (exchange_spec m c (entry m c) hw h2 (dev3_px h c hw h2) Q _)
  isplitl [HLx HLy HR Ha Hl Hx HO]
  · isplitl [HLx]; · iexact HLx
    isplitl [HLy]; · iexact HLy
    isplitl [HR]; · iexact HR
    isplitl [Ha]; · iapply (Entails.of_eq (arrivals_true c)); iexact Ha
    isplitl [Hl]; · iexact Hl
    isplitl [Hx]; · iexact Hx
    iexact HO
  iintro ⟨⟨Hz, Ho, Hx⟩, HO⟩
  imod (close_unused m true c locS unused_loc) $$ HRl with HzL
  unfold owing
  icases HO with ⟨HO, -⟩
  rw [wp_ret]; imodintro
  iapply Hk
  isplitr [HO]
  · unfold Φ₁ closed
    isplitl [Hz HzL HzB]
    · isplitr [HzB]
      · isplitl [Hz] <;> iassumption
      iexact HzB
    isplitl [Ho]
    · iexact Ho
    iexact Hx
  iexact HO

/-- What follows the read of the word, for either table. -/
theorem rest_spec (c : Dev nD) (h : Names m sw) (hw : k0_chk1 c (entry m c)) (Q : PUnit → sProp 𝕄) :
    iprop((Φ₀ m sw c ∗ ∃ W, owes (c : Thread nD τ) (O₀ sw c) W) ∗ ((Φ₁ m sw c ∗ ∃ W, owes (c : Thread nD τ) 0 W) -∗ Q ⟨⟩))
      ⊢ runs c (rest c (entry m c) hw) Q := by
  cases sw
  · exact rest_here m c h hw Q
  · exact rest_there m c h hw Q

/-- What follows the read, of a word equal to the table's entry. -/
theorem rest_at (c : Dev nD) (h : Names m sw) (w : Elt F .i32) (he : w = entry m c) (hw : k0_chk1 c w) (Q : PUnit → sProp 𝕄) :
    iprop((Φ₀ m sw c ∗ ∃ W, owes (c : Thread nD τ) (O₀ sw c) W) ∗ ((Φ₁ m sw c ∗ ∃ W, owes (c : Thread nD τ) 0 W) -∗ Q ⟨⟩))
      ⊢ runs c (rest c w hw) Q := by
  subst he; exact rest_spec m sw c h hw Q

/-- The table is fetched at every step. -/
theorem fetch_0 (t : Fin cfg0.N) : (cfg0.win (0 : Fin 1)).fetch t = true := by rw [Gen.fin_N0 t]; rfl

/-- The body from what the pipeline hands it to what it takes back. -/
theorem sound_body (c : Dev nD) (h : Names m sw) (Kt : PUnit → sProp 𝕄) :
    iprop(bodyPre m sw ρ c ∗ (bodyPost m sw ρ c -∗ Kt ⟨⟩))
      ⊢ runs c (cc0_body (F := F) xArr (Memref.isWhole_whole _) tM (Memref.isWhole_whole _) oArr (Memref.isWhole_whole _)
      cc0_scratch0 cc0_scratch1 cc0_scratch2 cc0_scratch3 cc0_scratch4) Kt := by
  unfold runs
  rw [body_eq, loopBody_eq, wp_deviceId]
  have hc : k0_chk1 c (wordIn c (staged m ρ c)) := by rw [word_staged]; exact chk h c
  unfold bodyPre
  iintro ⟨⟨HΦ, Ho, ⟨%d0, %g0, %hg0, Ht⟩⟩, Hk⟩
  have hx : g0 = staged m ρ c := by rw [hg0]; unfold Pipeline.Dat.before; rw [if_pos (fetch_0 Gen.t0_0)]; rfl
  subst hx
  unfold Pipeline.Dat.owesAt Pipeline.owesWithin
  icases Ho with ⟨%W, %hW, HO⟩
  rw [show (dats m sw ρ 0 c).owed Gen.t0_0.castSucc = O₀ sw c from rfl]
  iapply (wp_load_rect 𝒱₀ (c : Thread nD τ) none Set.univ (m := tM) (r := rT c) (Finset.subset_univ _)) $$ Ht; iintro Ht
  simp only [wp_assume_of _ _ _ _ (d := k0_chk1.dec _ _) hc]
  iapply (rest_at m sw c h _ (word_staged m ρ c) hc Kt)
  isplitl [HΦ HO]
  · isplitl [HΦ]; · iexact HΦ
    iexists W; iexact HO
  iintro ⟨HΦ, ⟨%W', HO⟩⟩
  iapply Hk
  unfold bodyPost Pipeline.Dat.owesAt Pipeline.owesWithin
  rw [show (dats m sw ρ 0 c).owed Gen.t0_0.succ = 0 from rfl]
  isplitl [HΦ]; · iexact HΦ
  isplitl [HO]
  · iexists W'
    isplitr; · ipureintro; exact fun _ _ => Or.inl trivial
    iexact HO
  iexists _; isplitr; · (ipureintro; rfl)
  iexact Ht

/-- The library's body obligation on core `c`. -/
theorem body_obligation (h : Names m sw) (c : Dev nD) : Pipeline.BodyObligation (dats (F := F) m sw ρ 0 c) (defs₀ (F := F)) 𝒱₀ () Set.univ := fun t => by
  rw [Gen.fin_N0 t]
  rw [bigSep_W0, bigSep_W0]
  simp only [owns_whole]
  show bodyPre m sw ρ c ⊢ runs c (cc0_body (F := F) xArr (Memref.isWhole_whole _) tM (Memref.isWhole_whole _) oArr (Memref.isWhole_whole _)
      cc0_scratch0 cc0_scratch1 cc0_scratch2 cc0_scratch3 cc0_scratch4) (fun _ => bodyPost m sw ρ c)
  iintro H
  iapply (sound_body m sw ρ c h fun _ => bodyPost m sw ρ c)
  isplitl [H]; · iexact H
  iintro H; iexact H

end Cert.KernelIdeal.Kern

end
-- ==== Proof.Launch.lean ====
module

public import proofs.«01_k».proof.Proof.Run
public import Idealize.ShloMosaic.Lib.Pipeline.CollectiveSegs

@[expose] public section

noncomputable section

namespace Cert.KernelIdeal.Kern

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## One chunk of each loop -/

/-! ## The launch -/

variable (sw : Bool) (ρ : Dev nD → PrngReg)

/-! ### The cells -/

/-- The kernel's own transfer semaphores: the one of the copy in place, and the four arrays. -/
abbrev Own := Unit ⊕ Fin 4 × Fin 32
/-- Which semaphore each of the kernel's own is. -/
def ownSem : Own → SemLoc sig
  | .inl _ => .dma locS
  | .inr p => .dma (xsem p.1 p.2)
/-- Every cell the schedule runs on: the barrier's, and those. -/
abbrev Cix := Unit ⊕ Own
/-- Which semaphore each cell is of. -/
def cellSem : Cix → SemLoc sig
  | .inl _ => .reg barS
  | .inr o => ownSem o
/-- The cell on a device. -/
abbrev cellAt (p : Dev nD × Cix) : GSem nD τ sig := ((p.1 : Thread nD τ), cellSem p.2)

/-- The semaphore of the copy in place is none of the four arrays'. -/
theorem loc_ne_xsem (k : Fin 4) (i : Fin 32) : locS ≠ xsem k i := by
  intro h
  have h := congrArg lane h
  rw [lane_loc, lane_xsem] at h
  omega

/-- The transfer semaphores are different. -/
theorem ownSem_injective : Function.Injective ownSem := by
  rintro (u | ⟨k, i⟩) (u' | ⟨k', i'⟩) h
  · rfl
  · exact absurd (SemLoc.dma.inj h) (loc_ne_xsem k' i')
  · exact absurd (SemLoc.dma.inj h).symm (loc_ne_xsem k i)
  · obtain ⟨rfl, rfl⟩ := xsem_inj (SemLoc.dma.inj h); rfl

/-- The cells of a device are different. -/
theorem cellSem_injective : Function.Injective cellSem := by
  rintro (u | (u | p)) (u' | (u' | p')) h
  · rfl
  · cases (show (SemLoc.reg barS : SemLoc sig) = .dma locS from h)
  · cases (show (SemLoc.reg barS : SemLoc sig) = .dma (xsem p'.1 p'.2) from h)
  · cases (show (SemLoc.dma locS : SemLoc sig) = .reg barS from h)
  · rfl
  · exact congrArg Sum.inr (ownSem_injective h)
  · cases (show (SemLoc.dma (xsem p.1 p.2) : SemLoc sig) = .reg barS from h)
  · exact congrArg Sum.inr (ownSem_injective h)
  · exact congrArg Sum.inr (ownSem_injective h)

/-- The cells of all devices are different. -/
theorem cellAt_injective : Function.Injective cellAt := by
  rintro ⟨c, k⟩ ⟨c', k'⟩ h
  have h1 : c = c' := congrArg (fun g : GSem nD τ sig => g.1.1) h
  have h2 : k = k' := cellSem_injective (congrArg Prod.snd h)
  rw [h1, h2]

/-- The transfer semaphores are the kernel's own: scoped, different, none of them the staging's. -/
theorem ownSemFacts : Pipeline.OwnSemFacts cfg0.spec ownSem where
  isScoped := by
    rintro (u | ⟨k, i⟩)
    · exact (by decide +kernel : (SemLoc.dma locS : SemLoc sig).isScoped .tc = true)
    · revert k i; decide +kernel
  inj := ownSem_injective
  disj := by
    have h0 : ∀ w s, lane ((cfg0.spec w).sem s) = 0 := by decide +kernel
    rintro (u | ⟨k, i⟩) w s h
    · have h := congrArg lane (SemLoc.dma.inj h)
      rw [lane_loc, h0] at h; omega
    · have h := congrArg lane (SemLoc.dma.inj h)
      rw [lane_xsem, h0] at h; omega

/-- All cells of the schedule. -/
def allCells : Finset (GSem nD τ sig) := Finset.univ.map ⟨cellAt, cellAt_injective⟩

/-- Whose duty a token is for: the second duty of a device's barrier, or the first of any of its cells. -/
def tokAt (p : Dev nD × (Unit ⊕ Cix)) : GSem nD τ sig × ℕ × Bool := match p.2 with
  | .inl _ => (barCell p.1, 0, true)
  | .inr k => (cellAt (p.1, k), 0, false)
/-- Different duties have different tokens. -/
theorem tokAt_injective : Function.Injective tokAt := by
  rintro ⟨c, u | k⟩ ⟨c', u' | k'⟩ h
  · have h1 : c = c' := congrArg (fun x : GSem nD τ sig × ℕ × Bool => x.1.1.1) h
    rw [h1]
  · exact Bool.noConfusion (congrArg (fun x : GSem nD τ sig × ℕ × Bool => x.2.2) h)
  · exact Bool.noConfusion (congrArg (fun x : GSem nD τ sig × ℕ × Bool => x.2.2) h)
  · have h1 := cellAt_injective (congrArg (fun x : GSem nD τ sig × ℕ × Bool => x.1) h)
    have h2 : c = c' := congrArg Prod.fst h1
    have h3 : k = k' := congrArg Prod.snd h1
    rw [h2, h3]
/-- All tokens of the schedule. -/
def allToks : Finset (GSem nD τ sig × ℕ × Bool) := Finset.univ.map ⟨tokAt, tokAt_injective⟩

/-- The ghost element of the launch: the pipeline's, and the schedule's. -/
def u₀ : UU :=
  (initOf (Pipeline.cells cfgs cellOf_inj) (Pipeline.launchToks cfgs cellOf_inj), initOf allCells allToks)

omit [FloatOps F] in
/-- A resource for every cell of a device, group by group. -/
theorem cells_eq (Φ : SemLoc sig → sProp 𝕄) :
    (bigSep Finset.univ fun k : Cix => Φ (cellSem k))
      = iprop(Φ (.reg barS) ∗ Φ (.dma locS) ∗ sepL chunks (fun i => Φ (.dma (xsem 0 i))) ∗ sepL chunks (fun i => Φ (.dma (xsem 1 i)))
        ∗ sepL chunks (fun i => Φ (.dma (xsem 2 i))) ∗ sepL chunks (fun i => Φ (.dma (xsem 3 i)))) := by
  rw [bigSep_univ_sum, bigSep_univ_of_subsingleton (), bigSep_univ_sum, bigSep_univ_of_subsingleton (), bigSep_univ_prod,
    bigSep_univ_eq_bigSepL [0, 1, 2, 3] (by decide) (by decide), bigSepL_cons_cons, bigSepL_cons_cons, bigSepL_cons_cons, bigSepL_singleton,
    sepL_chunks, sepL_chunks, sepL_chunks, sepL_chunks]
  rfl

omit [FloatOps F] in
/-- A resource of every cell, device by device. -/
theorem over_cells (Φ : GSem nD τ sig → sProp 𝕄) :
    bigSep allCells Φ = bigSep Finset.univ fun c : Dev nD => bigSep Finset.univ fun k : Cix => Φ (cellAt (c, k)) := by
  unfold allCells; rw [bigSep_map, bigSep_univ_prod]; rfl

/-- The tokens of device `c`'s own cells. -/
def toks (c : Dev nD) : sProp 𝕄 :=
  iprop(dutyTok ER (barCell c) 0 true ∗ dutyTok ER (barCell c) 0 false ∗ dutyTok ER (locCell c) 0 false
    ∗ sepL chunks (fun i => dutyTok ER (xCell c 0 i) 0 false) ∗ sepL chunks (fun i => dutyTok ER (xCell c 1 i) 0 false)
    ∗ sepL chunks (fun i => dutyTok ER (xCell c 2 i) 0 false) ∗ sepL chunks (fun i => dutyTok ER (xCell c 3 i) 0 false))

/-- The tokens of the duties device `c` performs. -/
def payToks (c : Dev nD) : sProp 𝕄 :=
  iprop(dutyTok ER (barCell (py c)) 0 true ∗ dutyTok ER (barCell (px c)) 0 false ∗ dutyTok ER (locCell c) 0 false
    ∗ sepL chunks (fun i => dutyTok ER (xCell c 0 i) 0 false) ∗ sepL chunks (fun i => dutyTok ER (xCell c 1 i) 0 false)
    ∗ sepL chunks (fun i => dutyTok ER (xCell (px c) 2 i) 0 false) ∗ sepL chunks (fun i => dutyTok ER (xCell (py c) 3 i) 0 false))

omit [FloatOps F] in
/-- The tokens, device by device. -/
theorem over_toks :
    bigSep allToks (fun x => (dutyTok ER x.1 x.2.1 x.2.2 : sProp 𝕄)) = bigSep Finset.univ fun c : Dev nD => toks c := by
  unfold allToks; rw [bigSep_map, bigSep_univ_prod]
  refine bigSep_congr fun c _ => ?_
  rw [bigSep_univ_sum, bigSep_univ_of_subsingleton ()]
  unfold toks
  exact congrArg (fun P : sProp 𝕄 => iprop(dutyTok ER (barCell c) 0 true ∗ P))
    (cells_eq (F := F) fun s => dutyTok ER ((c : Thread nD τ), s) 0 false)

omit [FloatOps F] in
/-- The tokens dealt to whoever performs the duty: a neighbour on the mesh. -/
theorem toks_around : (bigSep Finset.univ fun c : Dev nD => (toks c : sProp 𝕄)) ⊢ bigSep Finset.univ fun c : Dev nD => payToks c := by
  unfold toks payToks
  simp only [bigSep_sep']
  rw [bigSep_univ_equiv crossY (fun c : Dev nD => (dutyTok ER (barCell c) 0 true : sProp 𝕄)),
    bigSep_univ_equiv crossX (fun c : Dev nD => (dutyTok ER (barCell c) 0 false : sProp 𝕄)),
    bigSep_univ_equiv crossX (fun c : Dev nD => (sepL chunks (fun i => dutyTok ER (xCell c 2 i) 0 false) : sProp 𝕄)),
    bigSep_univ_equiv crossY (fun c : Dev nD => (sepL chunks (fun i => dutyTok ER (xCell c 3 i) 0 false) : sProp 𝕄))]
  exact BI.Entails.refl _

/-! ### Handing out the ghost state -/

/-- What the ghost element deals device `c`. -/
def G (c : Dev nD) : sProp 𝕄 :=
  iprop((bigSep Finset.univ fun k : Cix => roundState ER (rd m sw) (cellAt (c, k)) 0)
    ∗ (bigSep Finset.univ fun k : Cix => reached ER (cellAt (c, k)) 0)
    ∗ (bigSep Finset.univ fun k : Cix => atPos ER (cellAt (c, k)) 0 ∅ 0) ∗ toks c)
/-- What a device enters the kernel with. -/
def G' (c : Dev nD) : sProp 𝕄 := iprop(gates m sw c ∗ gear m sw c)

omit [FloatOps F] in
/-- The launch's ghost element gives each device its share. -/
theorem fund_cells : BI.own (ER (initOf allCells allToks)) ⊢ (|==> bigSep Finset.univ (G m sw) : sProp 𝕄) := by
  iintro HX
  imod (Rounds.fund ER (rd m sw) allCells allToks) $$ HX with ⟨Hst, Hr, Hat, Htok⟩
  imodintro
  ihave Hst' := (Entails.of_eq (over_cells fun g => roundState ER (rd m sw) g 0)) $$ Hst
  ihave Hr' := (Entails.of_eq (over_cells fun g => reached ER g 0)) $$ Hr
  ihave Hat' := (Entails.of_eq (over_cells fun g => atPos ER g 0 ∅ 0)) $$ Hat
  ihave Htok' := (Entails.of_eq (over_toks (F := F))) $$ Htok
  unfold G; simp only [bigSep_sep']
  isplitl [Hst']; · iexact Hst'
  isplitl [Hr']; · iexact Hr'
  isplitl [Hat']; · iexact Hat'
  iexact Htok'

omit [FloatOps F] in
/-- The kernel's own semaphores at zero, group by group; -/
theorem ownSems0_eq (c : Dev nD) : (Pipeline.ownSems0 (Ix := Unit) (Name := ℕ) (U := UU) (Lvl := ℕ) (Val := Elt F) (τ := τ) ownSem c : sProp 𝕄)
    = bigSep Finset.univ fun o : Own => semVal ((c : Thread nD τ), ownSem o) 0 := rfl
omit [FloatOps F] in
/-- the barrier's is the one that outlives it; -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl
omit [FloatOps F] in
/-- together they are the cells of the device. -/
theorem sems0_eq (c : Dev nD) :
    iprop(unscopedSems0 c ∗ Pipeline.ownSems0 (Ix := Unit) (Name := ℕ) (U := UU) (Lvl := ℕ) (Val := Elt F) (τ := τ) ownSem c)
      = (bigSep Finset.univ fun k : Cix => semVal (cellAt (c, k)) 0 : sProp 𝕄) := by
  rw [unscopedSems0_eq, bigSep_univ_sum, bigSep_univ_of_subsingleton ()]; rfl

omit [FloatOps F] in
/-- A cell at zero in its first round is set up as an invariant. -/
theorem alloc_cell (g : GSem nD τ sig) :
    iprop(semVal g 0 ∗ roundState ER (rd m sw) g 0) ⊢ (|={Set.univ}=> ∃ κ : ℕ, cellInv ER (rd m sw) κ g : sProp 𝕄) :=
  (Rounds.body_intro ER (rd m sw) g).trans inv_alloc

/-- A device's cells set up: known, its positions and tokens beside them. -/
theorem core_alloc (c : Dev nD) :
    iprop(Pipeline.ownSems0 (Ix := Unit) (Name := ℕ) (U := UU) (Lvl := ℕ) (Val := Elt F) (τ := τ) ownSem c ∗ unscopedSems0 c ∗ G m sw c)
      ⊢ |={Set.univ}=> iprop((bigSep Finset.univ fun k : Cix => known m sw (cellAt (c, k)))
          ∗ (bigSep Finset.univ fun k : Cix => atPos ER (cellAt (c, k)) 0 ∅ 0) ∗ toks c) := by
  unfold G
  iintro ⟨Hos, Hus, Hst, Hr, Hat, Htok⟩
  ihave Hv := (Entails.of_eq (sems0_eq (F := F) c)) $$ [Hos Hus]
  · isplitl [Hus] <;> iassumption
  imod (show iprop((bigSep Finset.univ fun k : Cix => semVal (cellAt (c, k)) 0) ∗ bigSep Finset.univ fun k : Cix => roundState ER (rd m sw) (cellAt (c, k)) 0)
      ⊢ (|={Set.univ}=> bigSep Finset.univ fun k : Cix => iprop(∃ κ : ℕ, cellInv ER (rd m sw) κ (cellAt (c, k))) : sProp 𝕄) from by
        rw [← bigSep_sep']
        exact (bigSep_mono fun k _ => alloc_cell m sw (cellAt (c, k))).trans (bigSep_fupd _ _)) $$ [Hv Hst] with Hinv
  · isplitl [Hv] <;> iassumption
  imodintro
  isplitl [Hinv Hr]
  · unfold known; rw [bigSep_sep']
    isplitl [Hinv] <;> iassumption
  isplitl [Hat] <;> iassumption

/-- Every cell of the machine is known. -/
def allKnown : sProp 𝕄 := bigSep Finset.univ fun p : Dev nD × Cix => known m sw (cellAt p)
instance allKnown_persistent : BI.Persistent (allKnown m sw) := by unfold allKnown; infer_instance

/-- Where every cell is known, the barrier's is. -/
theorem known_bar (c : Dev nD) : allKnown m sw ⊢ known m sw (barCell c) := bigSep_elim (Finset.mem_univ (c, Sum.inl ()))
/-- Where every cell is known, that of the copy in place is. -/
theorem known_loc (c : Dev nD) : allKnown m sw ⊢ known m sw (locCell c) := bigSep_elim (Finset.mem_univ (c, Sum.inr (Sum.inl ())))
/-- Where every cell is known, that of each chunk is. -/
theorem known_x (c : Dev nD) (k : Fin 4) (i : Fin 32) : allKnown m sw ⊢ known m sw (xCell c k i) :=
  bigSep_elim (Finset.mem_univ (c, Sum.inr (Sum.inr (k, i))))

omit [FloatOps F] in
/-- A persistent fact used at every index of a list. -/
theorem sepL_with {R : sProp 𝕄} [BI.Persistent R] {P Q : Fin 32 → sProp 𝕄} (h : ∀ i, iprop(R ∗ P i) ⊢ Q i) (l : List (Fin 32)) :
    iprop(R ∗ sepL l P) ⊢ sepL l Q := by
  induction l with
  | nil => iintro ⟨-, H⟩; iexact H
  | cons i l ih =>
    simp only [sepL_cons]
    iintro ⟨#HR, HP, Hl⟩
    isplitl [HP]
    · iapply (h i)
      isplitr; · iexact HR
      iexact HP
    · iapply ih
      isplitr; · iexact HR
      iexact Hl

/-- Links between the cells of two arrays of known cells. -/
theorem links_intro (c d : Dev nD) (k k' : Fin 4) :
    iprop(allKnown m sw ∗ sepL chunks (fun i => dutyTok ER (xCell c k i) 0 false) ∗ sepL chunks (fun i => dutyTok ER (xCell d k' i) 0 false))
      ⊢ sepL chunks (links m sw c d k k') := by
  iintro ⟨#HK, H, H'⟩
  iapply (sepL_with (R := allKnown m sw) (P := fun i => iprop(dutyTok ER (xCell c k i) 0 false ∗ dutyTok ER (xCell d k' i) 0 false)) fun i => by
    unfold links
    iintro ⟨#HK, Ht⟩
    isplitr
    · isplitr
      · iapply (known_x m sw c k i); iexact HK
      · iapply (known_x m sw d k' i); iexact HK
    iexact Ht)
  isplitr; · iexact HK
  iapply (sepL_sep chunks)
  isplitl [H] <;> iassumption

/-- Positions at known cells of an array. -/
theorem readys_intro (c : Dev nD) (k : Fin 4) :
    iprop(allKnown m sw ∗ sepL chunks (fun i => atPos ER (xCell c k i) 0 ∅ 0)) ⊢ sepL chunks (fun i => ready m sw c (xsem k i)) :=
  sepL_with (fun i => by
    unfold ready
    iintro ⟨#HK, Ht⟩
    isplitr
    · iapply (known_x m sw c k i); iexact HK
    iexact Ht) chunks

/-- Known cells, a device's positions and the tokens of its duties are what it enters with. -/
theorem G'_intro (c : Dev nD) :
    iprop(allKnown m sw ∗ (bigSep Finset.univ fun k : Cix => atPos ER (cellAt (c, k)) 0 ∅ 0) ∗ payToks c) ⊢ G' m sw c := by
  have hp : (bigSep Finset.univ fun k : Cix => atPos ER (cellAt (c, k)) 0 ∅ 0 : sProp 𝕄) = _ :=
    cells_eq (F := F) fun s => atPos ER ((c : Thread nD τ), s) 0 ∅ 0
  rw [hp]
  unfold G' gates gear payToks
  iintro ⟨#HK, ⟨Hb, Hl, H0, H1, H2, H3⟩, Tby, Tbx, Tl, T0, T1, T2, T3⟩
  isplitl [Hb Tbx Tby]
  · isplitr
    · isplitr; · iapply (known_bar m sw c); iexact HK
      isplitr; · iapply (known_bar m sw (px c)); iexact HK
      iapply (known_bar m sw (py c)); iexact HK
    isplitl [Hb]; · iexact Hb
    isplitl [Tbx] <;> iassumption
  isplitl [T0 T1 T2 T3]
  · isplitl [T0 T2]
    · iapply (links_intro m sw c (px c) 0 2)
      isplitr; · iexact HK
      isplitl [T0] <;> iassumption
    · iapply (links_intro m sw c (py c) 1 3)
      isplitr; · iexact HK
      isplitl [T1] <;> iassumption
  isplitl [H0 H1 H2 H3]
  · isplitl [H0]
    · iapply (readys_intro m sw c 0)
      isplitr; · iexact HK
      iexact H0
    isplitl [H1]
    · iapply (readys_intro m sw c 1)
      isplitr; · iexact HK
      iexact H1
    isplitl [H2]
    · iapply (readys_intro m sw c 2)
      isplitr; · iexact HK
      iexact H2
    · iapply (readys_intro m sw c 3)
      isplitr; · iexact HK
      iexact H3
  isplitl [Hl]
  · unfold ready
    isplitr; · iapply (known_loc m sw c); iexact HK
    iexact Hl
  iexact Tl

/-- The tokens change hands: each device gets those of the duties that it performs. -/
theorem regroup :
    (bigSep Finset.univ fun c : Dev nD => iprop((bigSep Finset.univ fun k : Cix => known m sw (cellAt (c, k)))
          ∗ (bigSep Finset.univ fun k : Cix => atPos ER (cellAt (c, k)) 0 ∅ 0) ∗ toks c) : sProp 𝕄)
      ⊢ bigSep Finset.univ (G' m sw) := by
  rw [bigSep_sep', bigSep_sep', ← bigSep_univ_prod (fun p : Dev nD × Cix => known m sw (cellAt p))]
  iintro ⟨HK, Hat, Htok⟩
  ihave #HK := (Entails.of_eq (show (bigSep Finset.univ fun p : Dev nD × Cix => known m sw (cellAt p)) = allKnown m sw from rfl)) $$ HK
  ihave Htok := (toks_around (F := F)) $$ Htok
  iapply ((sep_mono_left (BI.bigSep_of_persistent Finset.univ (allKnown m sw))).trans
    ((Entails.of_eq (bigSep_sep' Finset.univ (fun _ : Dev nD => allKnown m sw)
      (fun c => iprop((bigSep Finset.univ fun k : Cix => atPos ER (cellAt (c, k)) 0 ∅ 0) ∗ payToks c))).symm).trans (bigSep_mono fun c _ => G'_intro m sw c)))
  isplitr; · iexact HK
  rw [bigSep_sep']
  isplitl [Hat] <;> iassumption

/-- Every device's semaphores turned into cells at once, the tokens dealt around. -/
theorem glob : (bigSep Finset.univ fun c => iprop(Pipeline.ownSems0 (Ix := Unit) (Name := ℕ) (U := UU) (Lvl := ℕ) (Val := Elt F) (τ := τ) ownSem c ∗ unscopedSems0 c ∗ G m sw c) : sProp 𝕄)
    ⊢ |={Set.univ}=> bigSep Finset.univ (G' m sw) :=
  ((bigSep_mono fun c _ => core_alloc m sw c).trans (bigSep_fupd _ _)).trans (BI.fupd_mono (regroup m sw))

/-! ### The launch credit -/

omit [FloatOps F] in
/-- The credit of a list of arrivals owed across a pairing of the devices. -/
theorem cred_debt (base : Dev nD → CellTallies nD τ sig Unit) (e : Dev nD → Dev nD) (he : ∀ d, e (e d) = d) (k : Fin 4) (c : Dev nD) (l : List (Fin 32)) :
    (Pipeline.launchCred (fun d => debt (base d) (e d) k l) c : sProp 𝕄)
      ⊢ iprop(Pipeline.launchCred base c ∗ sepL l (fun i => cred (tallyAt (xCell c k i) () N))) := by
  induction l with
  | nil =>
    iintro H
    isplitl [H]; · iexact H
    iapply (Entails.of_eq (show (iprop(emp) : sProp 𝕄) = sepL [] _ from rfl)); iempintro
  | cons i l ih =>
    have h : (Pipeline.launchCred (fun d => debt (base d) (e d) k (i :: l)) c : sProp 𝕄)
        = iprop(Pipeline.launchCred (fun d => debt (base d) (e d) k l) c ∗ Pipeline.launchCred (fun d => tallyAt (xCell (e d) k i) () N) c) :=
      Pipeline.launchCred_add _ _ c
    rw [h, sepL_cons]
    iintro ⟨Hl, Hi⟩
    ihave Hl := ih $$ Hl
    icases Hl with ⟨Hb, Hl⟩
    isplitl [Hb]; · iexact Hb
    isplitl [Hi]
    · iapply (Pipeline.launchCred_tallyAt (.dma (xsem k i)) e e he he () N c); iexact Hi
    iexact Hl

/-- The credits a device has at the launch: two units of its barrier, and in an exchange its arrivals. -/
theorem creds (c : Dev nD) : (Pipeline.launchCred (O₀ sw) c : sProp 𝕄) ⊢ iprop(cred (tallyAt (barCell c) () 2) ∗ arrivals sw c) := by
  have h : (Pipeline.launchCred (O₀ sw) c : sProp 𝕄)
      = iprop((Pipeline.launchCred (O₂ sw) c ∗ Pipeline.launchCred (fun d => tallyAt (barCell (py d)) () 1) c)
        ∗ Pipeline.launchCred (fun d => tallyAt (barCell (px d)) () 1) c) := by
    rw [← Pipeline.launchCred_add, ← Pipeline.launchCred_add]; rfl
  rw [h]
  iintro ⟨⟨H2, Hy⟩, Hx⟩
  ihave Hy := (Pipeline.launchCred_tallyAt (.reg barS) py py py_py py_py () 1 c) $$ Hy
  ihave Hx := (Pipeline.launchCred_tallyAt (.reg barS) px px px_px px_px () 1 c) $$ Hx
  isplitl [Hx Hy]
  · have h2 : (tallyAt (barCell c) () 2 : CellTallies nD τ sig Unit) = tallyAt (barCell c) () 1 + tallyAt (barCell c) () 1 :=
      (tallyAt_add _ _ 1 1).symm
    rw [h2]
    iapply (cred_add _ _).2
    isplitl [Hx] <;> iassumption
  cases sw
  · iapply (Entails.of_eq (show (iprop(emp) : sProp 𝕄) = arrivals false c from rfl)); iempintro
  · rw [arrivals_true]
    ihave H2 := (Entails.of_eq (show (Pipeline.launchCred (O₂ true) c : sProp 𝕄)
      = Pipeline.launchCred (fun d => debt (debt 0 (py d) 3 chunks) (px d) 2 chunks) c from rfl)) $$ H2
    ihave H2 := (cred_debt (F := F) (fun d => debt 0 (py d) 3 chunks) px px_px 2 c chunks) $$ H2
    icases H2 with ⟨H3, H2⟩
    ihave H3 := (cred_debt (F := F) (fun _ => 0) py py_py 3 c chunks) $$ H3
    icases H3 with ⟨-, H3⟩
    isplitl [H2] <;> iassumption

/-! ### The theorem's side conditions -/

/-- The launch gives what the body starts from. -/
theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' m sw c)
      ⊢ |={Set.univ}=> iprop(Φ₀ m sw c ∗ emp) := by
  rw [Pipeline.unscopedRestP_none, Gen.unscopedRest0_eq]
  iintro ⟨⟨Hx, Ho⟩, Hlev, Hcr, -, HG⟩
  ihave Hc := (creds (F := F) sw c) $$ Hcr
  imodintro
  unfold Φ₀ start G' oPts xPts
  isplitl
  · isplitl [HG Hc Hlev]
    · isplitl [HG]; · iexact HG
      isplitl [Hc] <;> iassumption
    isplitl [Ho]; · iexists _; iexact Ho
    iexact Hx
  · iempintro

/-- What is held before the body is what the pipeline asks for. -/
theorem phi0_intro (c : Dev nD) :
    iprop(Φ₀ m sw c ∗ Pipeline.prefHeld Pipeline.Prefetch.none c (fun _ => fullShare.right) (fun k => k.elim0) ∗ Pipeline.scopedRest cfg0.spec c)
      ⊢ (dats m sw ρ 0 c).Φ 0 := by
  rw [show (dats m sw ρ 0 c).Φ 0 = Φ₀ m sw c from rfl]
  iintro ⟨Hs, -, -⟩
  iexact Hs

/-- What a device holds at the end. -/
def last (c : Dev nD) : sProp 𝕄 := iprop(unscopedSems0 c ∗ oPts c Finset.univ (result m sw c) ∗ xPts c Finset.univ (X m c))

/-- What is held after the body is what the kernel's exit takes. -/
theorem phi1_exit (c : Dev nD) :
    (dats m sw ρ 0 c).Φ (Fin.last cfg0.N) ⊢ iprop(last m sw c ∗ Pipeline.ownSems0 ownSem c ∗ Pipeline.scopedRest cfg0.spec c) := by
  have hz : (iprop(unscopedSems0 c ∗ Pipeline.ownSems0 (Ix := Unit) (Name := ℕ) (U := UU) (Lvl := ℕ) (Val := Elt F) (τ := τ) ownSem c) : sProp 𝕄) = _ :=
    (sems0_eq (F := F) c).trans (cells_eq (F := F) fun s => semVal ((c : Thread nD τ), s) 0)
  rw [show (dats m sw ρ 0 c).Φ (Fin.last cfg0.N) = Φ₁ m sw c from rfl, Gen.scopedRest0_eq]
  unfold Φ₁ closed zeros last
  iintro ⟨⟨⟨⟨H0, H1, H2, H3⟩, Hl⟩, Hb⟩, Ho, Hx⟩
  ihave Hz := (Entails.of_eq hz.symm) $$ [H0 H1 H2 H3 Hl Hb]
  · isplitl [Hb]; · iexact Hb
    isplitl [Hl]; · iexact Hl
    isplitl [H0]; · iexact H0
    isplitl [H1]; · iexact H1
    isplitl [H2] <;> iassumption
  icases Hz with ⟨Hu, Hown⟩
  isplitl [Hu Ho Hx]
  · isplitl [Hu]; · iexact Hu
    isplitl [Ho] <;> iassumption
  isplitl [Hown]; · iexact Hown
  iempintro

/-- The pipeline's own waits are allowed. -/
theorem stage_waits (c : Dev nD) : (levAts L lv : sProp 𝕄) ⊢ Pipeline.cellsWaits cfgs (dats m sw ρ) () 0 c :=
  Pipeline.cellsWaits_intro cfgs (dats m sw ρ) () 0 c fun w s t =>
    mayWait_of c _ _ (by
      have h0 : lv ((c : Thread nD τ), .dma ((cfg0.spec w).sem s)) () = 0 := by revert c w s; decide +kernel
      refine (show Above (lv ((c : Thread nD τ), .dma ((cfg0.spec w).sem s)) ()) ((dats m sw ρ 0 c).owed t) from ?_)
      rw [h0]
      rcases t with ⟨_ | _, ht⟩
      · exact above_O₀ sw c
      · exact above_zero 0)

/-! ### The run -/

/-- What a run ends in: each device's output at the result, its arguments unchanged. -/
def Ends (c : Dev nD) (s : MemSt nD τ sig (Elt F)) : Prop :=
  s.mem ((c : Thread nD τ).loc main_v1) = result m sw c ∧ s.mem ((c : Thread nD τ).loc main_arg0) = m ((c : Thread nD τ).loc main_arg0)

/-- What is held at the end is read off the final memory. -/
theorem last_reads (c : Dev nD) (s' : Phys nD τ sig (Elt F)) :
    iprop(last m sw c ∗ emp ∗ SI s') ⊢ |={Set.univ}=> iprop(⌜Ends m sw c s'.mem
      ∧ ∀ sm : SemLoc sig, sm.isScoped .tc = false → s'.mem.sem ((c.tc : Thread nD τ), sm) = 0⌝ ∗ SI s') := by
  unfold last oPts xPts
  iintro ⟨⟨Hu, Ho, Hx⟩, -, HSI⟩
  ihave H := (persistent_entails_right (SI_pointsTo_agree (st := s') (ℓ := (c : Thread nD τ).loc main_v1) (I := Finset.univ) (q := fullShare) (f := result m sw c))) $$ [HSI Ho]
  · isplitl [HSI] <;> iassumption
  icases H with ⟨%ho, HSI, -⟩
  ihave H := (persistent_entails_right (SI_pointsTo_agree (st := s') (ℓ := (c : Thread nD τ).loc main_arg0) (I := Finset.univ) (q := fullShare) (f := X m c))) $$ [HSI Hx]
  · isplitl [HSI] <;> iassumption
  icases H with ⟨%hx, HSI, -⟩
  imod (Pipeline.unscopedSems0_read (X := unscopedSems0 c) (c := c) fupd_intro s') $$ [Hu HSI] with ⟨%hs, HSI⟩
  · isplitl [Hu] <;> iassumption
  imodintro
  isplitr
  · ipureintro
    exact ⟨⟨funext fun j => ho j (Finset.mem_univ j), funext fun j => hx j (Finset.mem_univ j)⟩, hs⟩
  iexact HSI

variable {m sw}

set_option maxRecDepth 8000 in
/-- From any memory whose table names for every device the other block, or for every device its own, every weakly fair
    execution of the kernel on the mesh of four devices ends, with each device's output at the block named, its
    arguments unchanged and every semaphore at zero. -/
theorem run_main (h : Names m sw) : θ_run defs (onTc (τ := τ) (main (F := F))) (s₀ m ρ) (fun r =>
    (∀ c : Dev nD, Ends m sw c r.2 ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m sw ρ) () cellOf_inj (0 : Fin 1)
    winFacts0.to₀ ownSemFacts (Pipeline.PreFacts.none _) EP defs₀ 𝒱₀ m ρ main
    (hmain := fun _ => rfl)
    (hbody := body_obligation m sw ρ h) (hne := fun w => by fin_cases w <;> exact Nat.succ_pos _) (harr := arr_whole0) (hstage := stage_whole0)
    (hshare := fun c w => by unfold Pipeline.Dat.share; split <;> rfl)
    (hdistinct := winFacts0.arr_inj)
    (O₀ := O₀ sw) (howed₀ := fun _ => rfl) (howedN := fun _ => rfl)
    (L := L) (lv := lv) (hL := L_of_ne) (hwaits := stage_waits m sw ρ)
    (G := G m sw) (G' := G' m sw) (u₀ := u₀)
    (hu₀ := by
      unfold u₀
      iintro Hu
      ihave H := (ownU_pair _ _) $$ Hu
      icases H with ⟨HP, HX⟩
      imod (fund_cells m sw) $$ HX with HG
      imodintro
      isplitl [HP] <;> iassumption)
    (hglob := glob m sw)
    (hA := fun _ _ => rfl) (hpf := fun _ k => k.elim0)
    (X := Φ₀ m sw) (Y := last m sw) (Z := fun _ => iprop(emp))
    (hX := start_intro m sw ρ) (hin := phi0_intro m sw ρ) (hout := phi1_exit m sw ρ)
    (QY := fun c s => Ends m sw c s ∧ ∀ sm : SemLoc sig, sm.isScoped .tc = false → s.sem ((c.tc : Thread nD τ), sm) = 0)
    (hY := last_reads m sw)
    (hQ := fun _ h hs => ⟨fun c => ⟨(h c).2.2.1, ((h c).1 (0 : Fin 1)).trans ((dats (F := F) m sw ρ 0 c).arrAt_in (0 : Fin 1) rfl _)⟩,
      sem_eq_zero hs fun c => (h c).2.2.2⟩)

end Cert.KernelIdeal.Kern

end
-- ==== Proof.Value.lean ====
module

public import proofs.«01_k».proof.Proof.Launch
public import proofs.«01_k».proof.Proof.Pre

@[expose] public section

noncomputable section

namespace Cert.KernelIdeal.Kern

open Idealize.ShloMosaic Idealize.ShloMosaic.TcCoe
open Cert.KernelIdeal Cert.KernelIdeal.Gen
open Cert.Proof.Pre (tableOf order_tableOf)
open Cert.ReferenceIdeal.Ref (word taken taken_at)

variable {F : FTy → Type} [FloatOps F]

variable (m : (ℓ : Loc nD τ sig) → Buf (Elt F) ℓ) (sw : Bool)

/-- The row of the first mesh axis whose block device `c` is to end with. -/
def named (c : Dev nD) : ℕ := if sw then 1 - c.val / 2 else c.val / 2

/-- The word of a table at a device's place. -/
theorem tableOf_named (c : Dev nD) : tableOf sw (ixOf c) = BitVec.ofNat 32 (named sw c) := by
  revert c; cases sw <;> decide +kernel

/-- A table that every device holds names the same for all of them. -/
theorem names_of (h : ∀ c : Dev nD, m ((c : Thread nD τ).loc main_arg1) = tableOf sw) : Names m sw := fun c =>
  (congrFun (h c) (ixOf c)).trans (tableOf_named sw c)

/-! ## The blocks of the whole array -/

/-- The whole array. -/
abbrev Whole : Shape := ⟨3, ![2, 1024, 1024]⟩
/-- One block of it. -/
abbrev Part : Shape := ⟨3, ![1, 1024, 1024]⟩

/-- The blocks tile the array. -/
theorem tiles : Layout.TilesN Part Whole (fun b => Layout.cutSize [2, 2] ((![[0], [], []] : Fin 3 → List Nat) b)) := by decide

/-- Where element `j` of device `c`'s block is in the whole array. -/
def at' (c : Dev nD) (j : Part.Idx) : Whole.Idx := tiles.idx (Layout.meshBlock [2, 2] ![[0], [], []] c) j

/-- The block coordinate is the device's on the first mesh axis. -/
theorem at_zero (c : Dev nD) (j : Part.Idx) : (at' c j 0).val = c.val / 2 := by
  have h : (j 0).val = 0 := Nat.lt_one_iff.mp (j 0).isLt
  have b : Layout.meshLin [2, 2] c.val [0] = c.val / 2 := by revert c; decide +kernel
  show Layout.meshLin [2, 2] c.val [0] * 1 + (j 0).val = _
  rw [b, h]; omega

/-- The second coordinate is the element's own; -/
theorem at_one (c : Dev nD) (j : Part.Idx) : (at' c j 1).val = (j 1).val := by
  show 0 * 1024 + (j 1).val = _
  omega

/-- and so is the third. -/
theorem at_two (c : Dev nD) (j : Part.Idx) : (at' c j 2).val = (j 2).val := by
  show 0 * 1024 + (j 2).val = _
  omega

/-- Devices in one row of the first mesh axis hold one block. -/
theorem at_congr {c d : Dev nD} (h : c.val / 2 = d.val / 2) (j : Part.Idx) : at' c j = at' d j := by
  funext a
  apply Fin.ext
  match a with
  | 0 => exact (at_zero c j).trans (h.trans (at_zero d j).symm)
  | 1 => exact (at_one c j).trans (at_one d j).symm
  | 2 => exact (at_two c j).trans (at_two d j).symm

/-- Held to the two blocks, a table's word is the block it names. -/
theorem named_word (u : Fin 2) : min (tableOf sw (word u)).toInt.toNat 1 = if sw then 1 - u.val else u.val := by
  revert u; cases sw <;> decide +kernel

/-- The whole array reordered, read in device `c`'s block, is the array in the block of a device
    that `c`'s word names. -/
theorem taken_block (x : FVec F Whole .f32) (c d : Dev nD) (h : d.val / 2 = named sw c) (j : Part.Idx) :
    taken x (tableOf sw) (at' c j) = x (at' d j) := by
  refine taken_at x _ _ _ ?_ ((at_one d j).trans (at_one c j).symm) ((at_two d j).trans (at_two c j).symm)
  rw [order_tableOf, named_word, at_zero, h]
  show _ = if sw then 1 - (at' c j 0).val else (at' c j 0).val
  rw [at_zero]
  rfl

/-- Either route of the exchange ends in the other row of the first mesh axis. -/
theorem crossed (c : Dev nD) : (px c).val / 2 = named true c ∧ (px (py c)).val / 2 = named true c := by
  revert c; decide +kernel

/-- A device's result, where every device holds its block of `x`, is its block of `x` reordered. -/
theorem result_block (x : FVec F Whole .f32)
    (hx : ∀ c : Dev nD, m ((c : Thread nD τ).loc main_arg0)
      = Layout.blockN Part Whole (Layout.meshBlock [2, 2] ![[0], [], []] c) x) (c : Dev nD) :
    result m sw c = Layout.blockN Part Whole (Layout.meshBlock [2, 2] ![[0], [], []] c) (taken x (tableOf sw)) := by
  have hX : ∀ (d : Dev nD) (j : Part.Idx), d.val / 2 = named sw c → X m d j = taken x (tableOf sw) (at' c j) := fun d j hd =>
    (congrFun (hx d) j).trans (taken_block sw x c d hd j).symm
  funext j
  show _ = taken x (tableOf sw) (at' c j)
  cases sw
  · exact hX c j rfl
  · show (if (j 1).val / 512 = c.val % 2 then X m (px c) j else X m (px (py c)) j) = _
    split
    · exact hX _ j (crossed c).1
    · exact hX _ j (crossed c).2

end Cert.KernelIdeal.Kern

end
-- ==== Proof.lean ====
/- The claims of this directory (proofs.«01_k».proof.Defs): the kernel's runs are Proof/Launch.lean (and its copy at the
   machine's floats, Proof/LaunchK.lean), the reference's run Proof/Ref.lean, what the preconditions say of the table
   Proof/Pre.lean, and the comparison of the two results Proof/Value.lean. -/
module

public import proofs.«01_k».proof.Defs
public import proofs.«01_k».proof.Proof.LaunchK
public import proofs.«01_k».proof.Proof.ValueK
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_swapped_Kernel
public import proofs.«01_k».proof.Proof.Gen.Pre_in_place_Kernel
public import proofs.«01_k».proof.Proof.Gen.Pre_swapped_ReferenceIdeal
public import proofs.«01_k».proof.Proof.Gen.Pre_in_place_ReferenceIdeal

@[expose] public section

noncomputable section

namespace Cert.Proof

open Idealize.ShloMosaic Idealize.ShloMosaic.TcCoe Idealize.SL.Sem
open Cert.Proof.Pre (tableOf of_swapped of_in_place)
open Cert.ReferenceIdeal.Ref (taken)

/-- The kernel's frame at the machine's floats, where every device holds one of the two tables. -/
theorem frame_bits (sw : Bool) (m : (ℓ : Loc Cert.Kernel.nD Cert.Kernel.τ Cert.Kernel.sig) → Buf (Elt Bits) ℓ)
    (g : Dev Cert.Kernel.nD → PrngReg)
    (h : ∀ c : Dev Cert.Kernel.nD, m ((c.tc : Thread Cert.Kernel.nD Cert.Kernel.τ).loc Cert.Kernel.main_arg1) = tableOf sw) :
    θ_run (Cert.Kernel.defs (F := Bits)) (onTc (τ := Cert.Kernel.τ) (Cert.Kernel.main (F := Bits))) ⟨m, fun _ => 0, g⟩ (fun r =>
      (∀ c : Dev Cert.Kernel.nD,
        r.2.mem ((c.tc : Thread Cert.Kernel.nD Cert.Kernel.τ).loc Cert.Kernel.main_arg0)
            = m ((c.tc : Thread Cert.Kernel.nD Cert.Kernel.τ).loc Cert.Kernel.main_arg0)
        ∧ r.2.mem ((c.tc : Thread Cert.Kernel.nD Cert.Kernel.τ).loc Cert.Kernel.main_arg1)
            = m ((c.tc : Thread Cert.Kernel.nD Cert.Kernel.τ).loc Cert.Kernel.main_arg1))
      ∧ r.2.sem = fun _ => 0) :=
  θ_run_mono (Cert.Kernel.Kern.run_main g (Cert.Kernel.Kern.names_of m sw h)) fun _ hr =>
    ⟨fun c => ⟨(hr.1 c).1.2, (hr.1 c).2⟩, hr.2⟩

/-- The kernel's frame at the exact floats. -/
theorem frame_ideal (sw : Bool)
    (m : (ℓ : Loc Cert.KernelIdeal.nD Cert.KernelIdeal.τ Cert.KernelIdeal.sig) → Buf (Elt Ideal) ℓ)
    (g : Dev Cert.KernelIdeal.nD → PrngReg)
    (h : ∀ c : Dev Cert.KernelIdeal.nD,
      m ((c.tc : Thread Cert.KernelIdeal.nD Cert.KernelIdeal.τ).loc Cert.KernelIdeal.main_arg1) = tableOf sw) :
    θ_run (Cert.KernelIdeal.defs (F := Ideal)) (onTc (τ := Cert.KernelIdeal.τ) (Cert.KernelIdeal.main (F := Ideal)))
      ⟨m, fun _ => 0, g⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
      ∧ r.2.sem = fun _ => 0) :=
  θ_run_mono (Cert.KernelIdeal.Kern.run_main g (Cert.KernelIdeal.Kern.names_of m sw h)) fun _ hr =>
    ⟨fun c => ⟨(hr.1 c).1.2, (hr.1 c).2⟩, hr.2⟩

/-- The reference's frame. -/
theorem frame_ref : Cert.quiescent_ReferenceIdeal := fun m g _ =>
  θ_run_mono (Cert.ReferenceIdeal.Ref.run_main m g) fun _ hr => ⟨fun c => (hr.1 c).2, hr.2⟩

/-- The comparison of the two programs over one of the two tables: from memories that agree, the
    reference ends with its array reordered, and each device with its block of that. -/
theorem same (sw : Bool)
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev Cert.KernelIdeal.nD,
      m ((c.tc : Thread Cert.KernelIdeal.nD Cert.KernelIdeal.τ).loc Cert.KernelIdeal.main_arg1) = tableOf sw)
    (agree : ∀ c : Dev Cert.KernelIdeal.nD,
      m ((c.tc : Thread Cert.KernelIdeal.nD Cert.KernelIdeal.τ).loc Cert.KernelIdeal.main_arg0)
          = Layout.blockN ⟨3, ![1, 1024, 1024]⟩ ⟨3, ![2, 1024, 1024]⟩ (Layout.meshBlock [2, 2] ![[0], [], []] c)
            (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1)
              = Layout.blockN ⟨3, ![1, 1024, 1024]⟩ ⟨3, ![2, 1024, 1024]⟩ (Layout.meshBlock [2, 2] ![[0], [], []] c) v0
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal)))
        ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0)
              = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1)
              = m' (((0 : Dev Cert.ReferenceIdeal.nD).tc : Thread Cert.ReferenceIdeal.nD Cert.ReferenceIdeal.τ).loc Cert.ReferenceIdeal.main_arg1)) := by
  refine ⟨taken (F := Ideal)
      (m' (((0 : Dev Cert.ReferenceIdeal.nD).tc : Thread Cert.ReferenceIdeal.nD Cert.ReferenceIdeal.τ).loc Cert.ReferenceIdeal.main_arg0))
      (tableOf sw), ?_, ?_⟩
  · exact θ_run_mono (Cert.KernelIdeal.Kern.run_main g (Cert.KernelIdeal.Kern.names_of m sw h)) fun _ hr c =>
      ⟨(hr.1 c).1.1.trans (Cert.KernelIdeal.Kern.result_block m sw _ (fun d => (agree d).1) c), (hr.1 c).1.2, (hr.1 c).2⟩
  · exact θ_run_mono (Cert.ReferenceIdeal.Ref.run_main m' g') fun _ hr =>
      ⟨(hr.1 0).1.trans (congrArg (taken _) ((agree 0).2.symm.trans (h 0))), (hr.1 0).2⟩

/-- The certificate's claim. -/
theorem claim : Cert.Claim :=
  ⟨Cert.Kernel.Gen.facts, Cert.KernelIdeal.Gen.facts, Cert.ReferenceIdeal.Gen.facts, Cert.Pre_swapped_Kernel.Gen.facts,
    Cert.Pre_in_place_Kernel.Gen.facts, Cert.Pre_swapped_ReferenceIdeal.Gen.facts, Cert.Pre_in_place_ReferenceIdeal.Gen.facts,
    fun m g pre => frame_bits true m g fun c => of_swapped _ _ (pre c),
    fun m g pre => frame_bits false m g fun c => of_in_place _ _ (pre c),
    fun m g pre => frame_ideal true m g fun c => of_swapped _ _ (pre c),
    fun m g pre => frame_ideal false m g fun c => of_in_place _ _ (pre c),
    frame_ref,
    fun m g _ => frame_ref m g trivial,
    fun m g _ => frame_ref m g trivial,
    trivial,
    fun m g m' g' pre agree => same true m g m' g' (fun c => of_swapped _ _ (pre c)) agree,
    fun m g m' g' pre agree => same false m g m' g' (fun c => of_in_place _ _ (pre c)) agree⟩

end Cert.Proof

end
